-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x96x64x64 : Shape := ⟨4, ![1, 96, 64, 64]⟩
abbrev S4x1000 : Shape := ⟨2, ![4, 1000]⟩
abbrev S1000x4 : Shape := ⟨2, ![1000, 4]⟩
abbrev S96x64x64 : Shape := ⟨3, ![96, 64, 64]⟩
abbrev S1000x96x49 : Shape := ⟨3, ![1000, 96, 49]⟩
abbrev S8x4 : Shape := ⟨2, ![8, 4]⟩
abbrev S8x96x49 : Shape := ⟨3, ![8, 96, 49]⟩
abbrev S8x1 : Shape := ⟨2, ![8, 1]⟩
abbrev S1x16 : Shape := ⟨2, ![1, 16]⟩
abbrev S8x16 : Shape := ⟨2, ![8, 16]⟩
abbrev S8x16x64 : Shape := ⟨3, ![8, 16, 64]⟩
abbrev S8x16x1 : Shape := ⟨3, ![8, 16, 1]⟩
abbrev S8x8x2x64 : Shape := ⟨4, ![8, 8, 2, 64]⟩
abbrev S8x8x64 : Shape := ⟨3, ![8, 8, 64]⟩
abbrev S64x64 : Shape := ⟨2, ![64, 64]⟩
abbrev S1x64x64 : Shape := ⟨3, ![1, 64, 64]⟩
abbrev S8x49 : Shape := ⟨2, ![8, 49]⟩
abbrev S96x8x64 : Shape := ⟨3, ![96, 8, 64]⟩
abbrev S64x7 : Shape := ⟨2, ![64, 7]⟩
abbrev S64x49 : Shape := ⟨2, ![64, 49]⟩
abbrev S96x8x49 : Shape := ⟨3, ![96, 8, 49]⟩
abbrev S1x8x49 : Shape := ⟨3, ![1, 8, 49]⟩
abbrev S96x49 : Shape := ⟨2, ![96, 49]⟩
abbrev S1x96x49 : Shape := ⟨3, ![1, 96, 49]⟩
abbrev S1000x96x7x7 : Shape := ⟨4, ![1000, 96, 7, 7]⟩

abbrev nBuf : Space → Nat
  | .hbm => 6
  | .vmem => 5
  | .smem => 0
  | _ => 0

abbrev bufTy : (tb : Table) → Fin (tcTables nBuf tb) → BufTy
  | .hbm, ⟨0, _⟩ => ⟨S1x96x64x64, .f32⟩
  | .hbm, ⟨1, _⟩ => ⟨S4x1000, .f32⟩
  | .hbm, ⟨2, _⟩ => ⟨S1000x4, .f32⟩
  | .hbm, ⟨3, _⟩ => ⟨S96x64x64, .f32⟩
  | .hbm, ⟨4, _⟩ => ⟨S1000x96x49, .f32⟩
  | .hbm, ⟨5, _⟩ => ⟨S1000x96x7x7, .f32⟩
  | .local _ .vmem, ⟨0, _⟩ => ⟨S8x4, .f32⟩
  | .local _ .vmem, ⟨1, _⟩ => ⟨S8x4, .f32⟩
  | .local _ .vmem, ⟨2, _⟩ => ⟨S96x64x64, .f32⟩
  | .local _ .vmem, ⟨3, _⟩ => ⟨S8x96x49, .f32⟩
  | .local _ .vmem, ⟨4, _⟩ => ⟨S8x96x49, .f32⟩
  | _, _ => ⟨S1x96x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x96x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x96x64x64 : Shape := ⟨4, ![1, 96, 64, 64]⟩
abbrev S4x1000 : Shape := ⟨2, ![4, 1000]⟩
abbrev S1000x4 : Shape := ⟨2, ![1000, 4]⟩
abbrev S96x64x64 : Shape := ⟨3, ![96, 64, 64]⟩
abbrev S1000x1 : Shape := ⟨2, ![1000, 1]⟩
abbrev S1000 : Shape := ⟨1, ![1000]⟩
abbrev S_ : Shape := ⟨0, ![]⟩
abbrev S2 : Shape := ⟨1, ![2]⟩
abbrev S7 : Shape := ⟨1, ![7]⟩
abbrev S1000x1x1 : Shape := ⟨3, ![1000, 1, 1]⟩
abbrev S1x7x1 : Shape := ⟨3, ![1, 7, 1]⟩
abbrev S1x1x2 : Shape := ⟨3, ![1, 1, 2]⟩
abbrev S1x7x2 : Shape := ⟨3, ![1, 7, 2]⟩
abbrev S1000x7x2 : Shape := ⟨3, ![1000, 7, 2]⟩
abbrev S1000x7x1x2x1 : Shape := ⟨5, ![1000, 7, 1, 2, 1]⟩
abbrev S1000x7x7x2x2 : Shape := ⟨5, ![1000, 7, 7, 2, 2]⟩
abbrev S1000x1x7x1x2 : Shape := ⟨5, ![1000, 1, 7, 1, 2]⟩
abbrev S96x4096 : Shape := ⟨2, ![96, 4096]⟩
abbrev S1x1000x7x7x2x2 : Shape := ⟨6, ![1, 1000, 7, 7, 2, 2]⟩
abbrev S196000 : Shape := ⟨1, ![196000]⟩
abbrev S196000x1 : Shape := ⟨2, ![196000, 1]⟩
abbrev S1 : Shape := ⟨1, ![1]⟩
abbrev S1x1 : Shape := ⟨2, ![1, 1]⟩
abbrev S96x196000 : Shape := ⟨2, ![96, 196000]⟩
abbrev S96x1000x7x7x2x2 : Shape := ⟨6, ![96, 1000, 7, 7, 2, 2]⟩
abbrev S96x1000x7x7 : Shape := ⟨4, ![96, 1000, 7, 7]⟩
abbrev S1000x96x7x7 : Shape := ⟨4, ![1000, 96, 7, 7]⟩

abbrev nBuf : Space → Nat
  | .hbm => 288
  | .vmem => 0
  | .smem => 0
  | _ => 0

abbrev hbmTy0_0 (i : Nat) : BufTy := match i % 128 with
  | 0 => ⟨S1x96x64x64, .f32⟩
  | 1 => ⟨S4x1000, .f32⟩
  | 2 => ⟨S1000x4, .f32⟩
  | 3 => ⟨S96x64x64, .f32⟩
  | 4 => ⟨S1000x1, .f32⟩
  | 5 => ⟨S1000, .f32⟩
  | 6 => ⟨S_, .f32⟩
  | 7 => ⟨S1000, .f32⟩
  | 8 => ⟨S1000, .f32⟩
  | 9 => ⟨S1000x1, .f32⟩
  | 10 => ⟨S1000, .f32⟩
  | 11 => ⟨S_, .f32⟩
  | 12 => ⟨S1000, .f32⟩
  | 13 => ⟨S1000, .f32⟩
  | 14 => ⟨S1000x1, .f32⟩
  | 15 => ⟨S1000, .f32⟩
  | 16 => ⟨S_, .f32⟩
  | 17 => ⟨S1000, .f32⟩
  | 18 => ⟨S1000, .f32⟩
  | 19 => ⟨S1000x1, .f32⟩
  | 20 => ⟨S1000, .f32⟩
  | 21 => ⟨S_, .f32⟩
  | 22 => ⟨S1000, .f32⟩
  | 23 => ⟨S1000, .f32⟩
  | 24 => ⟨S1000, .f32⟩
  | 25 => ⟨S_, .f32⟩
  | 26 => ⟨S1000, .f32⟩
  | 27 => ⟨S1000, .f32⟩
  | 28 => ⟨S1000, .f32⟩
  | 29 => ⟨S_, .f32⟩
  | 30 => ⟨S1000, .f32⟩
  | 31 => ⟨S1000, .f32⟩
  | 32 => ⟨S_, .f32⟩
  | 33 => ⟨S1000, .f32⟩
  | 34 => ⟨S1000, .f32⟩
  | 35 => ⟨S_, .f32⟩
  | 36 => ⟨S1000, .f32⟩
  | 37 => ⟨S1000, .f32⟩
  | 38 => ⟨S2, .f32⟩
  | 39 => ⟨S_, .f32⟩
  | 40 => ⟨S2, .f32⟩
  | 41 => ⟨S2, .f32⟩
  | 42 => ⟨S_, .f32⟩
  | 43 => ⟨S2, .f32⟩
  | 44 => ⟨S2, .f32⟩
  | 45 => ⟨S7, .f32⟩
  | 46 => ⟨S7, .f32⟩
  | 47 => ⟨S1000x1x1, .f32⟩
  | 48 => ⟨S1x7x1, .f32⟩
  | 49 => ⟨S1x1x2, .f32⟩
  | 50 => ⟨S1x7x2, .f32⟩
  | 51 => ⟨S1x7x2, .f32⟩
  | 52 => ⟨S1x7x2, .f32⟩
  | 53 => ⟨S1000x1x1, .f32⟩
  | 54 => ⟨S1000x7x2, .f32⟩
  | 55 => ⟨S1000x7x2, .f32⟩
  | 56 => ⟨S1000x7x2, .f32⟩
  | 57 => ⟨S1000x7x2, .f32⟩
  | 58 => ⟨S1000x7x2, .f32⟩
  | 59 => ⟨S1000x1x1, .f32⟩
  | 60 => ⟨S1x7x1, .f32⟩
  | 61 => ⟨S1x1x2, .f32⟩
  | 62 => ⟨S1x7x2, .f32⟩
  | 63 => ⟨S1x7x2, .f32⟩
  | 64 => ⟨S1x7x2, .f32⟩
  | 65 => ⟨S1000x1x1, .f32⟩
  | 66 => ⟨S1000x7x2, .f32⟩
  | 67 => ⟨S1000x7x2, .f32⟩
  | 68 => ⟨S1000x7x2, .f32⟩
  | 69 => ⟨S1000x7x2, .f32⟩
  | 70 => ⟨S1000x7x2, .f32⟩
  | 71 => ⟨S1000x7x1x2x1, .f32⟩
  | 72 => ⟨S1000x7x7x2x2, .f32⟩
  | 73 => ⟨S1000x1x7x1x2, .f32⟩
  | 74 => ⟨S1000x7x7x2x2, .f32⟩
  | 75 => ⟨S_, .f32⟩
  | 76 => ⟨S1000x7x7x2x2, .f32⟩
  | 77 => ⟨S1000x7x7x2x2, .i1⟩
  | 78 => ⟨S_, .f32⟩
  | 79 => ⟨S1000x7x7x2x2, .f32⟩
  | 80 => ⟨S1000x7x7x2x2, .i1⟩
  | 81 => ⟨S1000x7x7x2x2, .i1⟩
  | 82 => ⟨S_, .f32⟩
  | 83 => ⟨S1000x7x7x2x2, .f32⟩
  | 84 => ⟨S1000x7x7x2x2, .i1⟩
  | 85 => ⟨S1000x7x7x2x2, .i1⟩
  | 86 => ⟨S_, .f32⟩
  | 87 => ⟨S1000x7x7x2x2, .f32⟩
  | 88 => ⟨S1000x7x7x2x2, .i1⟩
  | 89 => ⟨S1000x7x7x2x2, .i1⟩
  | 90 => ⟨S_, .f32⟩
  | 91 => ⟨S1000x7x7x2x2, .f32⟩
  | 92 => ⟨S1000x7x7x2x2, .f32⟩
  | 93 => ⟨S_, .f32⟩
  | 94 => ⟨S1000x7x7x2x2, .f32⟩
  | 95 => ⟨S1000x7x7x2x2, .f32⟩
  | 96 => ⟨S1000x7x7x2x2, .f32⟩
  | 97 => ⟨S1000x7x7x2x2, .i32⟩
  | 98 => ⟨S1000x7x7x2x2, .f32⟩
  | 99 => ⟨S1000x7x7x2x2, .i32⟩
  | 100 => ⟨S_, .i32⟩
  | 101 => ⟨S1000x7x7x2x2, .i32⟩
  | 102 => ⟨S1000x7x7x2x2, .i1⟩
  | 103 => ⟨S_, .i32⟩
  | 104 => ⟨S1000x7x7x2x2, .i32⟩
  | 105 => ⟨S1000x7x7x2x2, .i1⟩
  | 106 => ⟨S_, .i32⟩
  | 107 => ⟨S_, .i32⟩
  | 108 => ⟨S1000x7x7x2x2, .i32⟩
  | 109 => ⟨S1000x7x7x2x2, .i32⟩
  | 110 => ⟨S_, .i32⟩
  | 111 => ⟨S1000x7x7x2x2, .i32⟩
  | 112 => ⟨S1000x7x7x2x2, .i32⟩
  | 113 => ⟨S_, .i32⟩
  | 114 => ⟨S_, .i32⟩
  | 115 => ⟨S1000x7x7x2x2, .i32⟩
  | 116 => ⟨S1000x7x7x2x2, .i32⟩
  | 117 => ⟨S_, .i32⟩
  | 118 => ⟨S_, .i32⟩
  | 119 => ⟨S1000x7x7x2x2, .i32⟩
  | 120 => ⟨S1000x7x7x2x2, .i32⟩
  | 121 => ⟨S_, .i32⟩
  | 122 => ⟨S1000x7x7x2x2, .i32⟩
  | 123 => ⟨S1000x7x7x2x2, .i32⟩
  | 124 => ⟨S_, .i32⟩
  | 125 => ⟨S_, .i32⟩
  | 126 => ⟨S1000x7x7x2x2, .i32⟩
  | 127 => ⟨S1000x7x7x2x2, .i32⟩
  | _ => ⟨S1x96x64x64, .f32⟩

abbrev hbmTy0_1 (i : Nat) : BufTy := match i % 128 with
  | 0 => ⟨S1000x7x7x2x2, .f32⟩
  | 1 => ⟨S1000x7x7x2x2, .f32⟩
  | 2 => ⟨S1000x7x7x2x2, .f32⟩
  | 3 => ⟨S1000x7x7x2x2, .f32⟩
  | 4 => ⟨S1000x7x7x2x2, .f32⟩
  | 5 => ⟨S1000x7x7x2x2, .f32⟩
  | 6 => ⟨S_, .f32⟩
  | 7 => ⟨S1000x7x7x2x2, .f32⟩
  | 8 => ⟨S1000x7x7x2x2, .f32⟩
  | 9 => ⟨S1000x7x7x2x2, .f32⟩
  | 10 => ⟨S1000x7x7x2x2, .f32⟩
  | 11 => ⟨S_, .f32⟩
  | 12 => ⟨S1000x7x7x2x2, .f32⟩
  | 13 => ⟨S1000x7x7x2x2, .f32⟩
  | 14 => ⟨S96x4096, .f32⟩
  | 15 => ⟨S1000x7x7x2x2, .f32⟩
  | 16 => ⟨S1x1000x7x7x2x2, .f32⟩
  | 17 => ⟨S_, .i32⟩
  | 18 => ⟨S1000x7x7x2x2, .i32⟩
  | 19 => ⟨S1000x7x7x2x2, .i32⟩
  | 20 => ⟨S1000x7x7x2x2, .i32⟩
  | 21 => ⟨S196000, .i32⟩
  | 22 => ⟨S_, .i32⟩
  | 23 => ⟨S196000, .i32⟩
  | 24 => ⟨S196000, .i1⟩
  | 25 => ⟨S_, .i32⟩
  | 26 => ⟨S196000, .i32⟩
  | 27 => ⟨S196000, .i32⟩
  | 28 => ⟨S196000, .i32⟩
  | 29 => ⟨S196000x1, .i32⟩
  | 30 => ⟨S1, .i32⟩
  | 31 => ⟨S_, .i32⟩
  | 32 => ⟨S196000x1, .i32⟩
  | 33 => ⟨S196000x1, .i1⟩
  | 34 => ⟨S1x1, .i32⟩
  | 35 => ⟨S196000x1, .i32⟩
  | 36 => ⟨S196000x1, .i1⟩
  | 37 => ⟨S196000x1, .i1⟩
  | 38 => ⟨S_, .i1⟩
  | 39 => ⟨S196000, .i1⟩
  | 40 => ⟨S96x196000, .f32⟩
  | 41 => ⟨S96x196000, .i1⟩
  | 42 => ⟨S_, .f32⟩
  | 43 => ⟨S96x196000, .f32⟩
  | 44 => ⟨S96x196000, .f32⟩
  | 45 => ⟨S96x1000x7x7x2x2, .f32⟩
  | 46 => ⟨S96x1000x7x7x2x2, .f32⟩
  | 47 => ⟨S96x1000x7x7x2x2, .f32⟩
  | 48 => ⟨S1000x7x7x2x2, .f32⟩
  | 49 => ⟨S1x1000x7x7x2x2, .f32⟩
  | 50 => ⟨S_, .i32⟩
  | 51 => ⟨S1000x7x7x2x2, .i32⟩
  | 52 => ⟨S1000x7x7x2x2, .i32⟩
  | 53 => ⟨S1000x7x7x2x2, .i32⟩
  | 54 => ⟨S196000, .i32⟩
  | 55 => ⟨S_, .i32⟩
  | 56 => ⟨S196000, .i32⟩
  | 57 => ⟨S196000, .i1⟩
  | 58 => ⟨S_, .i32⟩
  | 59 => ⟨S196000, .i32⟩
  | 60 => ⟨S196000, .i32⟩
  | 61 => ⟨S196000, .i32⟩
  | 62 => ⟨S196000x1, .i32⟩
  | 63 => ⟨S1, .i32⟩
  | 64 => ⟨S_, .i32⟩
  | 65 => ⟨S196000x1, .i32⟩
  | 66 => ⟨S196000x1, .i1⟩
  | 67 => ⟨S1x1, .i32⟩
  | 68 => ⟨S196000x1, .i32⟩
  | 69 => ⟨S196000x1, .i1⟩
  | 70 => ⟨S196000x1, .i1⟩
  | 71 => ⟨S_, .i1⟩
  | 72 => ⟨S196000, .i1⟩
  | 73 => ⟨S96x196000, .f32⟩
  | 74 => ⟨S96x196000, .i1⟩
  | 75 => ⟨S_, .f32⟩
  | 76 => ⟨S96x196000, .f32⟩
  | 77 => ⟨S96x196000, .f32⟩
  | 78 => ⟨S96x1000x7x7x2x2, .f32⟩
  | 79 => ⟨S96x1000x7x7x2x2, .f32⟩
  | 80 => ⟨S96x1000x7x7x2x2, .f32⟩
  | 81 => ⟨S96x1000x7x7x2x2, .f32⟩
  | 82 => ⟨S1000x7x7x2x2, .f32⟩
  | 83 => ⟨S1x1000x7x7x2x2, .f32⟩
  | 84 => ⟨S_, .i32⟩
  | 85 => ⟨S1000x7x7x2x2, .i32⟩
  | 86 => ⟨S1000x7x7x2x2, .i32⟩
  | 87 => ⟨S1000x7x7x2x2, .i32⟩
  | 88 => ⟨S196000, .i32⟩
  | 89 => ⟨S_, .i32⟩
  | 90 => ⟨S196000, .i32⟩
  | 91 => ⟨S196000, .i1⟩
  | 92 => ⟨S_, .i32⟩
  | 93 => ⟨S196000, .i32⟩
  | 94 => ⟨S196000, .i32⟩
  | 95 => ⟨S196000, .i32⟩
  | 96 => ⟨S196000x1, .i32⟩
  | 97 => ⟨S1, .i32⟩
  | 98 => ⟨S_, .i32⟩
  | 99 => ⟨S196000x1, .i32⟩
  | 100 => ⟨S196000x1, .i1⟩
  | 101 => ⟨S1x1, .i32⟩
  | 102 => ⟨S196000x1, .i32⟩
  | 103 => ⟨S196000x1, .i1⟩
  | 104 => ⟨S196000x1, .i1⟩
  | 105 => ⟨S_, .i1⟩
  | 106 => ⟨S196000, .i1⟩
  | 107 => ⟨S96x196000, .f32⟩
  | 108 => ⟨S96x196000, .i1⟩
  | 109 => ⟨S_, .f32⟩
  | 110 => ⟨S96x196000, .f32⟩
  | 111 => ⟨S96x196000, .f32⟩
  | 112 => ⟨S96x1000x7x7x2x2, .f32⟩
  | 113 => ⟨S96x1000x7x7x2x2, .f32⟩
  | 114 => ⟨S96x1000x7x7x2x2, .f32⟩
  | 115 => ⟨S96x1000x7x7x2x2, .f32⟩
  | 116 => ⟨S1000x7x7x2x2, .f32⟩
  | 117 => ⟨S1x1000x7x7x2x2, .f32⟩
  | 118 => ⟨S_, .i32⟩
  | 119 => ⟨S1000x7x7x2x2, .i32⟩
  | 120 => ⟨S1000x7x7x2x2, .i32⟩
  | 121 => ⟨S1000x7x7x2x2, .i32⟩
  | 122 => ⟨S196000, .i32⟩
  | 123 => ⟨S_, .i32⟩
  | 124 => ⟨S196000, .i32⟩
  | 125 => ⟨S196000, .i1⟩
  | 126 => ⟨S_, .i32⟩
  | 127 => ⟨S196000, .i32⟩
  | _ => ⟨S1x96x64x64, .f32⟩

abbrev hbmTy0_2 (i : Nat) : BufTy := match i % 128 with
  | 0 => ⟨S196000, .i32⟩
  | 1 => ⟨S196000, .i32⟩
  | 2 => ⟨S196000x1, .i32⟩
  | 3 => ⟨S1, .i32⟩
  | 4 => ⟨S_, .i32⟩
  | 5 => ⟨S196000x1, .i32⟩
  | 6 => ⟨S196000x1, .i1⟩
  | 7 => ⟨S1x1, .i32⟩
  | 8 => ⟨S196000x1, .i32⟩
  | 9 => ⟨S196000x1, .i1⟩
  | 10 => ⟨S196000x1, .i1⟩
  | 11 => ⟨S_, .i1⟩
  | 12 => ⟨S196000, .i1⟩
  | 13 => ⟨S96x196000, .f32⟩
  | 14 => ⟨S96x196000, .i1⟩
  | 15 => ⟨S_, .f32⟩
  | 16 => ⟨S96x196000, .f32⟩
  | 17 => ⟨S96x196000, .f32⟩
  | 18 => ⟨S96x1000x7x7x2x2, .f32⟩
  | 19 => ⟨S96x1000x7x7x2x2, .f32⟩
  | 20 => ⟨S96x1000x7x7x2x2, .f32⟩
  | 21 => ⟨S96x1000x7x7x2x2, .f32⟩
  | 22 => ⟨S1x1000x7x7x2x2, .i1⟩
  | 23 => ⟨S1x1000x7x7x2x2, .f32⟩
  | 24 => ⟨S96x1000x7x7x2x2, .f32⟩
  | 25 => ⟨S96x1000x7x7x2x2, .f32⟩
  | 26 => ⟨S_, .f32⟩
  | 27 => ⟨S96x1000x7x7, .f32⟩
  | 28 => ⟨S_, .f32⟩
  | 29 => ⟨S96x1000x7x7, .f32⟩
  | 30 => ⟨S96x1000x7x7, .f32⟩
  | 31 => ⟨S1000x96x7x7, .f32⟩
  | _ => ⟨S1x96x64x64, .f32⟩

abbrev hbmTy (i : Nat) : BufTy := match i / 128 with
  | 0 => hbmTy0_0 i
  | 1 => hbmTy0_1 i
  | 2 => hbmTy0_2 i
  | _ => ⟨S1x96x64x64, .f32⟩

abbrev bufTy : (tb : Table) → Fin (tcTables nBuf tb) → BufTy
  | .hbm, ⟨i, _⟩ => hbmTy i
  | _, _ => ⟨S1x96x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_9 : Ref sig .tc := ⟨.hbm, 75, rfl⟩
abbrev main_v63 : Ref sig .tc := ⟨.hbm, 76, rfl⟩
abbrev main_v64 : Ref sig .tc := ⟨.hbm, 77, rfl⟩
abbrev main_cst_10 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_11 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_12 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_13 : Ref sig .tc := ⟨.hbm, 90, rfl⟩
abbrev main_v74 : Ref sig .tc := ⟨.hbm, 91, rfl⟩
abbrev main_v75 : Ref sig .tc := ⟨.hbm, 92, rfl⟩
abbrev main_cst_14 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_c : Ref sig .tc := ⟨.hbm, 100, rfl⟩
abbrev main_v82 : Ref sig .tc := ⟨.hbm, 101, rfl⟩
abbrev main_v83 : Ref sig .tc := ⟨.hbm, 102, rfl⟩
abbrev main_c_15 : Ref sig .tc := ⟨.hbm, 103, rfl⟩
abbrev main_v84 : Ref sig .tc := ⟨.hbm, 104, rfl⟩
abbrev main_v85 : Ref sig .tc := ⟨.hbm, 105, rfl⟩
abbrev main_c_16 : Ref sig .tc := ⟨.hbm, 106, rfl⟩
abbrev main_call0_v0 : Ref sig .tc := ⟨.hbm, 107, rfl⟩
abbrev main_call0_v1 : Ref sig .tc := ⟨.hbm, 108, rfl⟩
abbrev main_v86 : Ref sig .tc := ⟨.hbm, 109, rfl⟩
abbrev main_c_17 : Ref sig .tc := ⟨.hbm, 110, rfl⟩
abbrev main_v87 : Ref sig .tc := ⟨.hbm, 111, rfl⟩
abbrev main_v88 : Ref sig .tc := ⟨.hbm, 112, rfl⟩
abbrev main_c_18 : Ref sig .tc := ⟨.hbm, 113, rfl⟩
abbrev main_call1_v0 : Ref sig .tc := ⟨.hbm, 114, rfl⟩
abbrev main_call1_v1 : Ref sig .tc := ⟨.hbm, 115, rfl⟩
abbrev main_v89 : Ref sig .tc := ⟨.hbm, 116, rfl⟩
abbrev main_c_19 : Ref sig .tc := ⟨.hbm, 117, rfl⟩
abbrev main_call2_v0 : Ref sig .tc := ⟨.hbm, 118, rfl⟩
abbrev main_call2_v1 : Ref sig .tc := ⟨.hbm, 119, rfl⟩
abbrev main_v90 : Ref sig .tc := ⟨.hbm, 120, rfl⟩
abbrev main_c_20 : Ref sig .tc := ⟨.hbm, 121, rfl⟩
abbrev main_v91 : Ref sig .tc := ⟨.hbm, 122, rfl⟩
abbrev main_v92 : Ref sig .tc := ⟨.hbm, 123, rfl⟩
abbrev main_c_21 : Ref sig .tc := ⟨.hbm, 124, rfl⟩
abbrev main_call3_v0 : Ref sig .tc := ⟨.hbm, 125, rfl⟩
abbrev main_call3_v1 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_22 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_23 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_24 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_call6_c : Ref sig .tc := ⟨.hbm, 150, rfl⟩
abbrev main_call6_v0 : Ref sig .tc := ⟨.hbm, 151, rfl⟩
abbrev main_call6_v1 : Ref sig .tc := ⟨.hbm, 152, rfl⟩
abbrev main_call6_c_0 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_v5 : Ref sig .tc := ⟨.hbm, 157, rfl⟩
abbrev main_call6_c_1 : Ref sig .tc := ⟨.hbm, 158, rfl⟩
abbrev main_call6_c_2 : Ref sig .tc := ⟨.hbm, 159, rfl⟩
abbrev main_call6_v6 : Ref sig .tc := ⟨.hbm, 160, rfl⟩
abbrev main_call6_v7 : Ref sig .tc := ⟨.hbm, 161, rfl⟩
abbrev main_call6_v8 : Ref sig .tc := ⟨.hbm, 162, rfl⟩
abbrev main_call6_v9 : Ref sig .tc := ⟨.hbm, 163, rfl⟩
abbrev main_call6_v10 : Ref sig .tc := ⟨.hbm, 164, rfl⟩
abbrev main_call6_v11 : Ref sig .tc := ⟨.hbm, 165, rfl⟩
abbrev main_call6_c_3 : Ref sig .tc := ⟨.hbm, 166, rfl⟩
abbrev main_call6_v12 : Ref sig .tc := ⟨.hbm, 167, rfl⟩
abbrev main_call6_v13 : Ref sig .tc := ⟨.hbm, 168, rfl⟩
abbrev main_call6_v14 : Ref sig .tc := ⟨.hbm, 169, rfl⟩
abbrev main_call6_cst : Ref sig .tc := ⟨.hbm, 170, rfl⟩
abbrev main_call6_v15 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_c_25 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_call7_c : Ref sig .tc := ⟨.hbm, 183, rfl⟩
abbrev main_call7_v0 : Ref sig .tc := ⟨.hbm, 184, rfl⟩
abbrev main_call7_v1 : Ref sig .tc := ⟨.hbm, 185, rfl⟩
abbrev main_call7_c_0 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_call7_v5 : Ref sig .tc := ⟨.hbm, 190, rfl⟩
abbrev main_call7_c_1 : Ref sig .tc := ⟨.hbm, 191, rfl⟩
abbrev main_call7_c_2 : Ref sig .tc := ⟨.hbm, 192, rfl⟩
abbrev main_call7_v6 : Ref sig .tc := ⟨.hbm, 193, rfl⟩
abbrev main_call7_v7 : Ref sig .tc := ⟨.hbm, 194, rfl⟩
abbrev main_call7_v8 : Ref sig .tc := ⟨.hbm, 195, rfl⟩
abbrev main_call7_v9 : Ref sig .tc := ⟨.hbm, 196, rfl⟩
abbrev main_call7_v10 : Ref sig .tc := ⟨.hbm, 197, rfl⟩
abbrev main_call7_v11 : Ref sig .tc := ⟨.hbm, 198, rfl⟩
abbrev main_call7_c_3 : Ref sig .tc := ⟨.hbm, 199, rfl⟩
abbrev main_call7_v12 : Ref sig .tc := ⟨.hbm, 200, rfl⟩
abbrev main_call7_v13 : Ref sig .tc := ⟨.hbm, 201, rfl⟩
abbrev main_call7_v14 : Ref sig .tc := ⟨.hbm, 202, rfl⟩
abbrev main_call7_cst : Ref sig .tc := ⟨.hbm, 203, rfl⟩
abbrev main_call7_v15 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_c_26 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_call8_c : Ref sig .tc := ⟨.hbm, 217, rfl⟩
abbrev main_call8_v0 : Ref sig .tc := ⟨.hbm, 218, rfl⟩
abbrev main_call8_v1 : Ref sig .tc := ⟨.hbm, 219, rfl⟩
abbrev main_call8_c_0 : Ref sig .tc := ⟨.hbm, 220, rfl⟩
abbrev main_call8_v2 : Ref sig .tc := ⟨.hbm, 221, rfl⟩
abbrev main_call8_v3 : Ref sig .tc := ⟨.hbm, 222, rfl⟩
abbrev main_call8_v4 : Ref sig .tc := ⟨.hbm, 223, rfl⟩
abbrev main_call8_v5 : Ref sig .tc := ⟨.hbm, 224, rfl⟩
abbrev main_call8_c_1 : Ref sig .tc := ⟨.hbm, 225, rfl⟩
abbrev main_call8_c_2 : Ref sig .tc := ⟨.hbm, 226, rfl⟩
abbrev main_call8_v6 : Ref sig .tc := ⟨.hbm, 227, rfl⟩
abbrev main_call8_v7 : Ref sig .tc := ⟨.hbm, 228, rfl⟩
abbrev main_call8_v8 : Ref sig .tc := ⟨.hbm, 229, rfl⟩
abbrev main_call8_v9 : Ref sig .tc := ⟨.hbm, 230, rfl⟩
abbrev main_call8_v10 : Ref sig .tc := ⟨.hbm, 231, rfl⟩
abbrev main_call8_v11 : Ref sig .tc := ⟨.hbm, 232, rfl⟩
abbrev main_call8_c_3 : Ref sig .tc := ⟨.hbm, 233, rfl⟩
abbrev main_call8_v12 : Ref sig .tc := ⟨.hbm, 234, rfl⟩
abbrev main_call8_v13 : Ref sig .tc := ⟨.hbm, 235, rfl⟩
abbrev main_call8_v14 : Ref sig .tc := ⟨.hbm, 236, rfl⟩
abbrev main_call8_cst : Ref sig .tc := ⟨.hbm, 237, rfl⟩
abbrev main_call8_v15 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_c_27 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_call9_c : Ref sig .tc := ⟨.hbm, 251, rfl⟩
abbrev main_call9_v0 : Ref sig .tc := ⟨.hbm, 252, rfl⟩
abbrev main_call9_v1 : Ref sig .tc := ⟨.hbm, 253, rfl⟩
abbrev main_call9_c_0 : Ref sig .tc := ⟨.hbm, 254, rfl⟩
abbrev main_call9_v2 : Ref sig .tc := ⟨.hbm, 255, rfl⟩
abbrev main_call9_v3 : Ref sig .tc := ⟨.hbm, 256, rfl⟩
abbrev main_call9_v4 : Ref sig .tc := ⟨.hbm, 257, rfl⟩
abbrev main_call9_v5 : Ref sig .tc := ⟨.hbm, 258, rfl⟩
abbrev main_call9_c_1 : Ref sig .tc := ⟨.hbm, 259, rfl⟩
abbrev main_call9_c_2 : Ref sig .tc := ⟨.hbm, 260, rfl⟩
abbrev main_call9_v6 : Ref sig .tc := ⟨.hbm, 261, rfl⟩
abbrev main_call9_v7 : Ref sig .tc := ⟨.hbm, 262, rfl⟩
abbrev main_call9_v8 : Ref sig .tc := ⟨.hbm, 263, rfl⟩
abbrev main_call9_v9 : Ref sig .tc := ⟨.hbm, 264, rfl⟩
abbrev main_call9_v10 : Ref sig .tc := ⟨.hbm, 265, rfl⟩
abbrev main_call9_v11 : Ref sig .tc := ⟨.hbm, 266, rfl⟩
abbrev main_call9_c_3 : Ref sig .tc := ⟨.hbm, 267, rfl⟩
abbrev main_call9_v12 : Ref sig .tc := ⟨.hbm, 268, rfl⟩
abbrev main_call9_v13 : Ref sig .tc := ⟨.hbm, 269, rfl⟩
abbrev main_call9_v14 : Ref sig .tc := ⟨.hbm, 270, rfl⟩
abbrev main_call9_cst : Ref sig .tc := ⟨.hbm, 271, rfl⟩
abbrev main_call9_v15 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_v150 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_cst_28 : Ref sig .tc := ⟨.hbm, 282, rfl⟩
abbrev main_v154 : Ref sig .tc := ⟨.hbm, 283, rfl⟩
abbrev main_cst_29 : Ref sig .tc := ⟨.hbm, 284, rfl⟩
abbrev main_v155 : Ref sig .tc := ⟨.hbm, 285, rfl⟩
abbrev main_v156 : Ref sig .tc := ⟨.hbm, 286, rfl⟩
abbrev main_v157 : Ref sig .tc := ⟨.hbm, 287, rfl⟩

abbrev nD : Nat := 1
abbrev τ : Topo := Topo.v7x

variable {F : FTy → Type} [FloatOps F]
-- ==== Proof.Scalars.lean ====
module

public import Idealize.ShloMosaic.Lib.Pointwise
public import Idealize.ShloMosaic.Lib.ValueIdxCore
public import Mathlib.Data.EReal.Operations

@[expose] public section

set_option maxRecDepth 16384

/-! # One interpolation position

Both programs place sample points on an axis of 64 cells and read the two cells next to a point, weighted by how near
they are. Everything that depends on the position alone is defined here once, for the kernel and for the reference. -/

noncomputable section

open Idealize.ShloMosaic
open scoped NNReal

namespace Cert.Roi

/-- The position `a` bins into the interval from `c` to `d`, given in image coordinates. -/
def pos (c d a : EReal) : EReal :=
  c * Ideal.ofBits .f32 0x3D800000#32 + a * Ideal.div (max (d * Ideal.ofBits .f32 0x3D800000#32 - c * Ideal.ofBits .f32 0x3D800000#32) 1) (Ideal.ofBits .f32 0x40E00000#32)

/-- The whole part of a position, negative positions moved to zero. -/
def base (p : EReal) : BitVec 32 := Ideal.fptosi 32 (Ideal.liftRound Int.floor (max p 0))

/-- Whether the position has reached the last cell. -/
def edge (p : EReal) : BitVec 1 := IntOp.cmpi .sge (base p) 63#32

/-- The lower of the two cells. -/
def lo (p : EReal) : BitVec 32 := Scalar.select (edge p) 63#32 (base p)

/-- The upper of the two cells. -/
def hi (p : EReal) : BitVec 32 := Scalar.select (edge p) 63#32 (IntOp.addi (base p) 1#32)

/-- The weight of the upper cell. -/
def fr (p : EReal) : EReal :=
  Scalar.select (edge p) (((lo p).toInt : ℝ) : EReal) (max p 0) - (((lo p).toInt : ℝ) : EReal)

/-- Whether the position lies in the image, up to one cell before it. -/
def ins (p : EReal) : BitVec 1 :=
  IntOp.andi (BitVec.ofBool (decide (Ideal.ofBits .f32 0xBF800000#32 < p))) (BitVec.ofBool (decide (p < Ideal.ofBits .f32 0x42800000#32)))

/-- The whole part is a natural number below `2 ^ 31`; below 63 it is the floor of a real position. -/
theorem base_spec (p : EReal) : ∃ n : ℕ, n < 2 ^ 31 ∧ base p = BitVec.ofNat 32 n ∧
    (n < 63 → ∃ r : ℝ, max p 0 = (r : EReal) ∧ (n : ℝ) ≤ r ∧ r < n + 1) := by
  unfold base Ideal.fptosi
  have h0 : (0 : EReal) ≤ max p 0 := le_max_right _ _
  generalize max p 0 = x at h0
  induction x using EReal.rec with
  | bot => simp at h0
  | top =>
    refine ⟨2 ^ 31 - 1, by norm_num, ?_, fun h => by norm_num at h⟩
    rfl
  | coe r =>
    have hr : 0 ≤ r := by exact_mod_cast h0
    have hf : 0 ≤ ⌊r⌋ := Int.floor_nonneg.2 hr
    have hc : (0 : ℝ) ≤ (⌊r⌋ : ℝ) := by exact_mod_cast hf
    obtain ⟨k, hk⟩ := Int.eq_ofNat_of_zero_le hf
    refine ⟨min (2 ^ 31 - 1) k, by omega, ?_, fun h => ⟨r, rfl, ?_, ?_⟩⟩
    · have : Ideal.toIntClamped (-(2 ^ (32 - 1) : Nat)) ((2 ^ (32 - 1) : Nat) - 1) (Ideal.liftRound Int.floor (r : EReal)) = ((min (2 ^ 31 - 1) k : ℕ) : ℤ) := by
        show max _ (min _ (if (0 : ℝ) ≤ (⌊r⌋ : ℝ) then ⌊(⌊r⌋ : ℝ)⌋ else ⌈(⌊r⌋ : ℝ)⌉)) = _
        rw [if_pos hc, Int.floor_intCast]
        omega
      rw [this, BitVec.ofInt_natCast]
    · have : min (2 ^ 31 - 1) k = k := by omega
      rw [this]
      have := Int.floor_le r
      rw [hk] at this; exact_mod_cast this
    · have : min (2 ^ 31 - 1) k = k := by omega
      rw [this]
      have := Int.lt_floor_add_one r
      rw [hk] at this; exact_mod_cast this

/-- A one-bit word is one of two. -/
theorem bit_cases (v : BitVec 1) : v = 0#1 ∨ v = 1#1 := by
  revert v; decide

/-- The signed value of a small word. -/
theorem toInt_small (n : ℕ) (h : n < 2 ^ 31) : (BitVec.ofNat 32 n).toInt = n := by
  rw [BitVec.toInt_ofNat', Int.bmod_eq_of_le] <;> omega

/-- The two cells are cells of the axis and their weights are nonnegative reals, whatever the position. -/
theorem spec (p : EReal) : ∃ (l h : Fin 64) (a b : ℝ≥0), lo p = BitVec.ofNat 32 l.val ∧ hi p = BitVec.ofNat 32 h.val ∧
    fr p = ((a : ℝ) : EReal) ∧ 1 - fr p = ((b : ℝ) : EReal) := by
  obtain ⟨n, hn, hb, hr⟩ := base_spec p
  have he : edge p = BitVec.ofBool (decide (63 ≤ n)) := by
    unfold edge IntOp.cmpi
    rw [hb]
    simp only [BitVec.sle, toInt_small n hn]
    congr 1
    simp [show (63#32).toInt = 63 from rfl]
  by_cases h63 : 63 ≤ n
  · have he1 : edge p = 1#1 := by rw [he]; simp [h63]
    have hl : lo p = 63#32 := by unfold lo; rw [he1]; rfl
    have hh : hi p = 63#32 := by unfold hi; rw [he1]; rfl
    have hfr : fr p = 0 := by
      unfold fr; rw [he1, hl]
      show (((63#32 : BitVec 32).toInt : ℝ) : EReal) - _ = 0
      rw [← EReal.coe_sub, sub_self]; rfl
    refine ⟨63, 63, 0, 1, hl, hh, by rw [hfr]; rfl, ?_⟩
    rw [hfr]; simp
  · have he0 : edge p = 0#1 := by rw [he]; simp [h63]
    obtain ⟨r, hpr, h1, h2⟩ := hr (by omega)
    have hl : lo p = BitVec.ofNat 32 n := by unfold lo; rw [he0, hb]; rfl
    have hh : hi p = BitVec.ofNat 32 (n + 1) := by
      unfold hi; rw [he0, hb]
      show BitVec.ofNat 32 n + 1#32 = _
      rw [BitVec.ofNat_add]
    have hfr : fr p = ((r - n : ℝ) : EReal) := by
      unfold fr; rw [he0, hl, toInt_small n hn, hpr]
      show (r : EReal) - _ = _
      rw [EReal.coe_sub]; norm_cast
    refine ⟨⟨n, by omega⟩, ⟨n + 1, by omega⟩, ⟨r - n, by linarith⟩, ⟨1 - (r - n), by linarith⟩, hl, hh, hfr, ?_⟩
    rw [hfr]; show _ = ((1 - (r - n) : ℝ) : EReal)
    rw [EReal.coe_sub]; rfl

/-- The validity bit as a number is a nonnegative real. -/
theorem bit_val (v : BitVec 1) : ∃ u : ℝ≥0, ((((BitVec.setWidth 32 v).toInt : ℝ) : EReal)) = ((u : ℝ) : EReal) := by
  rcases bit_cases v with rfl | rfl
  · exact ⟨0, by simp⟩
  · exact ⟨1, by simp⟩

/-- How many bins from the first the `n`-th sample of an axis lies. -/
def off (n : ℕ) : EReal :=
  ((((BitVec.ofNat 32 n).toInt : ℝ) : EReal) + Ideal.ofBits .f32 0x3F000000#32) * Ideal.ofBits .f32 0x3F000000#32

end Cert.Roi

end
end
-- ==== Proof.Blend.lean ====
module

public import proofs.«01_k».proof.Proof.Scalars
public import Mathlib.Tactic.Module
public import Mathlib.Algebra.Module.BigOperators

@[expose] public section

set_option maxRecDepth 16384

/-! # Averaging four samples by two matrix products

The kernel sums the weights of the two samples of a bin along each axis into one row of a matrix and multiplies the
features by the two matrices. The reference interpolates at each of the four samples and takes the mean. All weights are
nonnegative reals, and over these the extended reals are a module, so the two agree for every feature value,
infinities included. -/

noncomputable section

open Idealize.ShloMosaic
open scoped NNReal

namespace Cert.Roi

/-- The extended reals as a module over the nonnegative reals. -/
@[reducible] def weightModule : Module ℝ≥0 EReal where
  smul a x := ((a : ℝ) : EReal) * x
  one_smul x := by show ((((1 : ℝ≥0) : ℝ)) : EReal) * x = x; simp
  mul_smul a b x := by
    show ((((a * b : ℝ≥0) : ℝ)) : EReal) * x = ((a : ℝ) : EReal) * (((b : ℝ) : EReal) * x)
    rw [← mul_assoc, NNReal.coe_mul, EReal.coe_mul]
  smul_zero a := mul_zero _
  smul_add a x y := EReal.left_distrib_of_nonneg_of_ne_top (by exact_mod_cast a.2) (EReal.coe_ne_top _) _ _
  add_smul a b x := by
    show ((((a + b : ℝ≥0) : ℝ)) : EReal) * x = ((a : ℝ) : EReal) * x + ((b : ℝ) : EReal) * x
    rw [NNReal.coe_add, EReal.coe_add]
    exact EReal.right_distrib_of_nonneg (by exact_mod_cast a.2) (by exact_mod_cast b.2)
  zero_smul x := by show ((((0 : ℝ≥0) : ℝ)) : EReal) * x = 0; simp

attribute [local instance] weightModule

/-- A weight acts by multiplication. -/
theorem weight_mul (a : ℝ≥0) (x : EReal) : ((a : ℝ) : EReal) * x = a • x := rfl

/-- The same from the right. -/
theorem mul_weight (a : ℝ≥0) (x : EReal) : x * ((a : ℝ) : EReal) = a • x := mul_comm _ _

/-- A bit as a number. -/
def num (v : BitVec 1) : EReal := ((((BitVec.setWidth 32 v).toInt : ℝ) : EReal))

/-- The weight of cell `h` in one sample at position `p`, the sample switched by the bit `v`. -/
def wt (v : BitVec 1) (p : EReal) (h : Fin 64) : EReal :=
  Scalar.select (IntOp.cmpi .eq (BitVec.ofNat 32 h.val) (lo p)) ((1 - fr p) * num v) 0
    + Scalar.select (IntOp.cmpi .eq (BitVec.ofNat 32 h.val) (hi p)) (fr p * num v) 0

/-- The cell a word names. -/
def cell (w : BitVec 32) : Fin 64 := ⟨w.toNat % 64, Nat.mod_lt _ (by norm_num)⟩

/-- The feature at a point: the four cells around it, weighted. -/
def samp (f : Fin 64 → Fin 64 → EReal) (py px : EReal) : EReal :=
  ((1 - fr py) * (1 - fr px) * f (cell (lo py)) (cell (lo px)) + (1 - fr py) * fr px * f (cell (lo py)) (cell (hi px))
    + fr py * (1 - fr px) * f (cell (hi py)) (cell (lo px)) + fr py * fr px * f (cell (hi py)) (cell (hi px)))
    * (num (ins py) * num (ins px))

/-- A cell's word names the cell. -/
theorem cell_ofNat (l : Fin 64) : cell (BitVec.ofNat 32 l.val) = l := by
  apply Fin.ext
  simp only [cell, BitVec.toNat_ofNat]
  omega

/-- Comparing two cells' words compares the cells. -/
theorem select_cell (h l : Fin 64) (x : EReal) :
    Scalar.select (IntOp.cmpi .eq (BitVec.ofNat 32 h.val) (BitVec.ofNat 32 l.val)) x 0 = if h = l then x else 0 := by
  have hiff : (BitVec.ofNat 32 h.val = BitVec.ofNat 32 l.val) ↔ h = l := by
    constructor
    · intro e
      have := congrArg cell e
      rwa [cell_ofNat, cell_ofNat] at this
    · rintro rfl; rfl
  unfold Scalar.select IntOp.cmpi
  by_cases e : h = l
  · subst e; simp
  · have : ¬ (BitVec.ofNat 32 h.val = BitVec.ofNat 32 l.val) := fun x => e (hiff.1 x)
    simp [e, beq_eq_false_iff_ne.2 this]

/-- One sample's weights as nonnegative reals on two cells. -/
theorem wt_spec (p : EReal) : ∃ (l h : Fin 64) (a b u : ℝ≥0), cell (lo p) = l ∧ cell (hi p) = h ∧
    fr p = ((a : ℝ) : EReal) ∧ 1 - fr p = ((b : ℝ) : EReal) ∧ num (ins p) = ((u : ℝ) : EReal) ∧
    ∀ k, wt (ins p) p k = ((((if k = l then b * u else 0) + (if k = h then a * u else 0) : ℝ≥0) : ℝ) : EReal) := by
  obtain ⟨l, h, a, b, hl, hh, ha, hb⟩ := spec p
  obtain ⟨u, hu⟩ := bit_val (ins p)
  refine ⟨l, h, a, b, u, by rw [hl, cell_ofNat], by rw [hh, cell_ofNat], ha, hb, hu, fun k => ?_⟩
  unfold wt num
  rw [hl, hh, ha, ← ha, hb, hu, ha, select_cell, select_cell, ← EReal.coe_mul, ← EReal.coe_mul, NNReal.coe_add, EReal.coe_add]
  congr 1 <;> split_ifs <;> simp

/-- The half both matrices are scaled by. -/
theorem half_val : Ideal.ofBits .f32 0x3F000000#32 = (((1 / 2 : ℝ≥0) : ℝ) : EReal) := by
  simp [Ideal.ofBits, Ideal.ieee, -EReal.coe_mul]; norm_num

/-- The number of samples in a bin. -/
theorem four_val : Ideal.ofBits .f32 0x40800000#32 = ((4 : ℝ) : EReal) := by
  simp [Ideal.ofBits, Ideal.ieee, -EReal.coe_mul]; norm_num

/-- Dividing by the number of samples is weighting by a quarter. -/
theorem div_four (x : EReal) : Ideal.div x (Ideal.ofBits .f32 0x40800000#32) = ((1 / 4 : ℝ≥0)) • x := by
  rw [four_val, Ideal.div_coe (by norm_num : (4 : ℝ) ≠ 0), ← mul_weight]
  norm_num

/-- Two weighted cells select two values of a function on the axis. -/
theorem sum_cells (l h : Fin 64) (a b : ℝ≥0) (g : Fin 64 → EReal) :
    ∑ k, ((if k = l then a else 0) + (if k = h then b else 0) : ℝ≥0) • g k = a • g l + b • g h := by
  simp only [add_smul, ite_smul, zero_smul, Finset.sum_add_distrib, Finset.sum_ite_eq', Finset.mem_univ, if_true]

/-- A matrix row of two samples applied to a function on the axis. -/
theorem row_apply (p0 p1 : Fin 64 → ℝ≥0) (w : Fin 64 → EReal) (g : Fin 64 → EReal)
    (hw : ∀ k, w k = ((((1 / 2) * (p0 k + p1 k) : ℝ≥0) : ℝ) : EReal)) :
    ∑ k, w k * g k = (1 / 2 : ℝ≥0) • (∑ k, p0 k • g k + ∑ k, p1 k • g k) := by
  rw [smul_add, Finset.smul_sum, Finset.smul_sum, ← Finset.sum_add_distrib]
  refine Finset.sum_congr rfl fun k _ => ?_
  rw [hw, weight_mul]
  module

/-- The kernel's two products are the mean of the reference's four samples. -/
theorem blend (f : Fin 64 → Fin 64 → EReal) (py px : Fin 2 → EReal) :
    ∑ w, (∑ h, (Ideal.ofBits .f32 0x3F000000#32 * ∑ s, wt (ins (py s)) (py s) h) * f h w)
        * (Ideal.ofBits .f32 0x3F000000#32 * ∑ t, wt (ins (px t)) (px t) w)
      = Ideal.div (∑ s, ∑ t, samp f (py s) (px t)) (Ideal.ofBits .f32 0x40800000#32) := by
  obtain ⟨yl0, yh0, ya0, yb0, yu0, e1, e2, e3, e4, e5, hy0⟩ := wt_spec (py 0)
  obtain ⟨yl1, yh1, ya1, yb1, yu1, d1, d2, d3, d4, d5, hy1⟩ := wt_spec (py 1)
  obtain ⟨xl0, xh0, xa0, xb0, xu0, c1, c2, c3, c4, c5, hx0⟩ := wt_spec (px 0)
  obtain ⟨xl1, xh1, xa1, xb1, xu1, b1, b2, b3, b4, b5, hx1⟩ := wt_spec (px 1)
  have row : ∀ (q : Fin 2 → EReal) (p0 p1 : Fin 64 → ℝ≥0), (∀ k, wt (ins (q 0)) (q 0) k = ((p0 k : ℝ) : EReal)) →
      (∀ k, wt (ins (q 1)) (q 1) k = ((p1 k : ℝ) : EReal)) →
      ∀ k, Ideal.ofBits .f32 0x3F000000#32 * ∑ s, wt (ins (q s)) (q s) k = ((((1 / 2) * (p0 k + p1 k) : ℝ≥0) : ℝ) : EReal) := by
    intro q p0 p1 h0 h1 k
    rw [Fin.sum_univ_two, h0, h1, half_val, NNReal.coe_mul, NNReal.coe_add, EReal.coe_mul, EReal.coe_add]
  have hy := row py _ _ hy0 hy1
  have hx := row px _ _ hx0 hx1
  have inner : ∀ w, ∑ h, (Ideal.ofBits .f32 0x3F000000#32 * ∑ s, wt (ins (py s)) (py s) h) * f h w = _ :=
    fun w => row_apply _ _ _ (fun h => f h w) hy
  simp only [inner]
  simp only [mul_comm _ (Ideal.ofBits .f32 0x3F000000#32 * _)]
  rw [row_apply _ _ _ _ hx]
  simp only [sum_cells, Fin.sum_univ_two, div_four]
  unfold samp
  simp only [e1, e2, e4, e5, d1, d2, d4, d5, c1, c2, c4, c5, b1, b2, b4, b5]
  simp only [e3, d3, c3, b3, ← EReal.coe_mul, ← NNReal.coe_mul]
  simp only [weight_mul, mul_weight]
  module

/-- One bin of a region with the corners `(x1, y1)` and `(x2, y2)`: the mean of its four samples. -/
def bin (x1 y1 x2 y2 : EReal) (f : Fin 64 → Fin 64 → EReal) (p q : ℕ) : EReal :=
  Ideal.div (∑ s : Fin 2, ∑ t : Fin 2, samp f (pos y1 y2 (off (p * 2 + s.val))) (pos x1 x2 (off (q * 2 + t.val))))
    (Ideal.ofBits .f32 0x40800000#32)

end Cert.Roi

end
end
-- ==== Proof.KernelBlock.lean ====
module

public import proofs.«01_k».proof.Proof.Gen.KernelIdeal.Frame
public import proofs.«01_k».proof.Proof.Blend
public import Idealize.ShloMosaic.Lib.Pipeline.ValueKit

@[expose] public section

set_option maxRecDepth 16384

/-! # What the kernel computes for one block of eight regions

The payloads of the body read at an index: the two interpolation matrices, the two products, and the mask that picks
one row of bins. -/

noncomputable section

open Idealize.ShloMosaic Idealize.ShloMosaic.TcCoe Idealize.SL.Sem

namespace Cert.KernelIdeal.Block

open Cert.KernelIdeal Cert.KernelIdeal.Gen Cert.Roi

/-- The vertical sample positions of a region. -/
theorem ypos_at (x : FVec Ideal S8x4 .f32) (b : Fin 8) (k : Fin 16) :
    k0_pay5 (F := Ideal) x (ix2 b k) = pos (x (ix2 b 1)) (x (ix2 b 3)) (off k.val) := by
  pointwise [k0_pay5, k0_pay2]
  all_goals rfl

/-- The width of a bin of each region. -/
def binw (x : FVec Ideal S8x4 .f32) : FVec Ideal S8x1 .f32 :=
  k0_pay11 (F := Ideal) (k0_pay3 (F := Ideal) x) (k0_pay4 (F := Ideal) x)

/-- The horizontal sample positions of a region. -/
theorem xpos_at (x : FVec Ideal S8x4 .f32) (b : Fin 8) (k : Fin 16) :
    k0_pay13 (F := Ideal) (k0_pay3 (F := Ideal) x) (binw x) (k0_pay12 (F := Ideal)) (ix2 b k)
      = pos (x (ix2 b 0)) (x (ix2 b 2)) (off k.val) := by
  pointwise [k0_pay13, binw, k0_pay3, k0_pay11, k0_pay4, k0_pay12, k0_pay2]
  all_goals rfl

/-- The bit that switches a sample: the position is in the image and the sample is one of the fourteen. -/
theorem bit_at (v : BitVec 1) (k : ℕ) (hk : k < 14) :
    IntOp.andi v (IntOp.cmpi .slt (BitVec.ofNat 32 k) 14#32) = v := by
  have : IntOp.cmpi .slt (BitVec.ofNat 32 k) 14#32 = 1#1 := by
    interval_cases k <;> rfl
  rw [this]; rcases bit_cases v with rfl | rfl <;> rfl

/-- The vertical interpolation matrix of a block, one row per region and row of bins. -/
def ymat (x : FVec Ideal S8x4 .f32) : FVec Ideal S64x64 .f32 :=
  k0_pay10 (F := Ideal) (k0_pay6 (F := Ideal) x) (k0_pay7 (F := Ideal) x) (k0_pay8 (F := Ideal) x) k0_pay9

/-- The horizontal interpolation matrix of a block, one column per region and column of bins. -/
def xmat (x : FVec Ideal S8x4 .f32) : FVec Ideal S64x64 .f32 :=
  k0_pay24 (F := Ideal)
    (k0_pay20 (F := Ideal) (k0_pay3 (F := Ideal) x) (binw x) (iota .tc S1x16 32 [1] iota_S1x16_d1_w32) (k0_pay12 (F := Ideal)))
    (iota .tc S8x16x64 32 [2] iota_S8x16x64_d2_w32)
    (k0_pay21 (F := Ideal) (k0_pay3 (F := Ideal) x) (binw x) (iota .tc S1x16 32 [1] iota_S1x16_d1_w32) (k0_pay12 (F := Ideal)))
    (k0_pay22 (F := Ideal) (k0_pay3 (F := Ideal) x) (binw x) (k0_pay12 (F := Ideal)))

/-- A row of the vertical interpolation matrix. -/
theorem ymat_at (x : FVec Ideal S8x4 .f32) (b : Fin 8) (p : Fin 8) (hp : p.val < 7) (h : Fin 64) :
    ymat x (ix2 (⟨8 * b.val + p.val, by omega⟩ : Fin 64) h)
      = Ideal.ofBits .f32 0x3F000000#32 * ∑ s : Fin 2,
          wt (ins (pos (x (ix2 b 1)) (x (ix2 b 3)) (off (p.val * 2 + s.val)))) (pos (x (ix2 b 1)) (x (ix2 b 3)) (off (p.val * 2 + s.val))) h := by
  pointwise [ymat, k0_pay10, k0_pay6, k0_pay7, k0_pay8, k0_pay9]
  all_goals
    simp only [ypos_at]
    refine congrArg _ (Finset.sum_congr rfl fun s _ => ?_)
    rw [bit_at _ _ (by omega)]
    rfl

/-- A column of the horizontal interpolation matrix. -/
theorem xmat_at (x : FVec Ideal S8x4 .f32) (b : Fin 8) (q : Fin 8) (hq : q.val < 7) (w : Fin 64) :
    xmat x (ix2 w (⟨8 * b.val + q.val, by omega⟩ : Fin 64))
      = Ideal.ofBits .f32 0x3F000000#32 * ∑ s : Fin 2,
          wt (ins (pos (x (ix2 b 0)) (x (ix2 b 2)) (off (q.val * 2 + s.val)))) (pos (x (ix2 b 0)) (x (ix2 b 2)) (off (q.val * 2 + s.val))) w := by
  pointwise [xmat, k0_pay24, k0_pay20, k0_pay21, k0_pay22, k0_pay19, k0_pay18, k0_pay17, k0_pay16, k0_pay15, k0_pay14]
  all_goals
    simp only [xpos_at]
    refine congrArg _ (Finset.sum_congr rfl fun s _ => ?_)
    rw [bit_at _ _ (by omega)]
    rfl

/-- The product of the vertical matrix with the features. -/
theorem vert_at (Y : FVec Ideal S64x64 .f32) (f : FVec Ideal S96x64x64 .f32) (c : Fin 96) (r w : Fin 64) :
    k0_pay23 (F := Ideal) Y f (ix3 c r w) = ∑ h : Fin 64, Y (ix2 r h) * f (ix3 c h w) := by
  pointwise [k0_pay23]

/-- The mask: row `p` keeps the seven bins of row `p`. -/
theorem mask_at (p : Fin 8) (j : Fin 49) : k0_pay25 (F := Ideal) (ix2 p j) = if j.val / 7 = p.val then 1 else 0 := by
  pointwise [k0_pay25]
  all_goals
    have hb : IntOp.andi (IntOp.cmpi CmpIPredicate.sge (BitVec.ofNat 32 j.val) (IntOp.muli (7#32) (BitVec.ofNat 32 p.val)))
        (IntOp.cmpi CmpIPredicate.slt (BitVec.ofNat 32 j.val) (IntOp.addi (IntOp.muli (7#32) (BitVec.ofNat 32 p.val)) 7#32))
        = BitVec.ofBool (decide (j.val / 7 = p.val)) := by
      revert p j; decide +kernel
    rw [hb]
    show (((BitVec.setWidth 32 (BitVec.ofBool (decide (j.val / 7 = p.val)))).toInt : ℝ) : EReal) = _
    by_cases e : j.val / 7 = p.val <;> simp [e]

/-- The second product of a region, masked and summed over its eight rows. -/
def prod (A : FVec Ideal S96x8x64 .f32) (B : FVec Ideal S64x7 .f32) (M : FVec Ideal S8x49 .f32) : FVec Ideal S96x49 .f32 :=
  multiReduction .add [1] S96x49
    (mulf (matmul dot_S96x8x64_S64x49_S96x8x49_2_0_01_1_n_n none A
        (concatenate S64x49 1 [⟨S64x7, B⟩, ⟨S64x7, B⟩, ⟨S64x7, B⟩, ⟨S64x7, B⟩, ⟨S64x7, B⟩, ⟨S64x7, B⟩, ⟨S64x7, B⟩] concatenates_S64x7_S64x7_S64x7_S64x7_S64x7_S64x7_S64x7_S64x49_d1)
        (constant S96x8x49 .f32 0x00000000#32))
      (broadcastTo S96x8x49 (shapeCast S1x8x49 M shapeCasts_S8x49_S1x8x49) broadcasts_S1x8x49_S96x8x49))
    0x00000000#32 reduces_S96x8x49_S96x49 (.inl rfl) rfl

/-- The masked product at a bin: the row and the column of the bin alone remain. -/
theorem prod_at (A : FVec Ideal S96x8x64 .f32) (B : FVec Ideal S64x7 .f32) (c : Fin 96) (j : Fin 49) :
    prod A B (k0_pay25 (F := Ideal)) (ix2 c j)
      = ∑ w : Fin 64, A (ix3 c (⟨j.val / 7, by omega⟩ : Fin 8) w) * B (ix2 w (⟨j.val % 7, by omega⟩ : Fin 7)) := by
  pointwise [prod]
  all_goals
    rw [Finset.sum_eq_single (⟨j.val / 7, by omega⟩ : Fin 8)]
    · rw [mask_at, if_pos rfl, mul_one]
      refine Finset.sum_congr rfl fun w _ => congrArg _ ?_
      split_ifs <;> (refine congrArg B ?_; refine congrArg (ix2 w) ?_; apply Fin.ext; show _ = j.val % 7; simp only []; omega)
    · intro p _ hne
      rw [mask_at, if_neg (fun e => hne (Fin.ext e.symm)), mul_zero]
    · intro h; exact absurd (Finset.mem_univ _) h

/-- What the body stores for region `b` of the block: every bin is the mean of its samples. -/
theorem row_at (x : FVec Ideal S8x4 .f32) (f : FVec Ideal S96x64x64 .f32) (b : Fin 8)
    (h1 : S96x64x64.Slices ![0, 8 * b.val, 0] S96x8x64) (h2 : S64x64.Slices ![0, 8 * b.val] S64x7) (a : Fin 1) (c : Fin 96) (j : Fin 49) :
    shapeCast S1x96x49 (prod (extractStridedSlice S96x8x64 ![0, 8 * b.val, 0] (k0_pay23 (F := Ideal) (ymat x) f) h1)
        (extractStridedSlice S64x7 ![0, 8 * b.val] (xmat x) h2) (k0_pay25 (F := Ideal))) shapeCasts_S96x49_S1x96x49 (ix3 a c j)
      = bin (x (ix2 b 0)) (x (ix2 b 1)) (x (ix2 b 2)) (x (ix2 b 3)) (fun h w => f (ix3 c h w)) (j.val / 7) (j.val % 7) := by
  have hA : ∀ w : Fin 64, extractStridedSlice S96x8x64 ![0, 8 * b.val, 0] (k0_pay23 (F := Ideal) (ymat x) f) h1
      (ix3 c (⟨j.val / 7, by omega⟩ : Fin 8) w)
      = ∑ h : Fin 64, ymat x (ix2 (⟨8 * b.val + j.val / 7, by omega⟩ : Fin 64) h) * f (ix3 c h w) := by
    intro w; pointwise [k0_pay23]
  have hB : ∀ w : Fin 64, extractStridedSlice S64x7 ![0, 8 * b.val] (xmat x) h2 (ix2 w (⟨j.val % 7, by omega⟩ : Fin 7))
      = xmat x (ix2 w (⟨8 * b.val + j.val % 7, by omega⟩ : Fin 64)) := by
    intro w; pointwise
  pointwise
  rw [prod_at]
  refine Eq.trans (Finset.sum_congr rfl fun w _ => ?_) (blend (fun h w => f (ix3 c h w))
    (fun s => pos (x (ix2 b 1)) (x (ix2 b 3)) (off (j.val / 7 * 2 + s.val)))
    (fun t => pos (x (ix2 b 0)) (x (ix2 b 2)) (off (j.val % 7 * 2 + t.val))))
  rw [hA, hB]
  rw [xmat_at x b (⟨j.val % 7, by omega⟩ : Fin 8) (by show j.val % 7 < 7; omega) w]
  refine congrArg (· * _) (Finset.sum_congr rfl fun h _ => congrArg (· * _) ?_)
  exact ymat_at x b (⟨j.val / 7, by omega⟩ : Fin 8) (by show j.val / 7 < 7; omega) h

/-- What the body leaves in its output buffer. -/
theorem out_at (x : FVec Ideal S8x4 .f32) (f : FVec Ideal S96x64x64 .f32) (b : Fin 8) (c : Fin 96) (j : Fin 49) :
    out0_2 (F := Ideal) x f (ix3 b c j)
      = bin (x (ix2 b 0)) (x (ix2 b 1)) (x (ix2 b 2)) (x (ix2 b 3)) (fun h w => f (ix3 c h w)) (j.val / 7) (j.val % 7) := by
  have hx : View.ld (show Vec Ideal S8x4 .f32 from x) r0_0 = x := by funext i; pointwise; all_goals exact congrArg x (by idx_ext)
  have hf : View.ld (show Vec Ideal S96x64x64 .f32 from f) r0_1 = f := by funext i; pointwise; all_goals exact congrArg f (by idx_ext)
  unfold_out out0_2
  rw [hx, hf]
  canon_tiles y h
  all_goals
    idx_vars y
    have hc : c = y1 := Fin.ext h1
    have hj : j = y2 := Fin.ext h2
    subst hc hj
  · obtain rfl : b = 7 := Fin.ext (by show b.val = 7; change b.val = 7 + y0.val at h0; omega)
    exact row_at x f 7 _ _ y0 c j
  · obtain rfl : b = 6 := Fin.ext (by show b.val = 6; change b.val = 6 + y0.val at h0; omega)
    exact row_at x f 6 _ _ y0 c j
  · obtain rfl : b = 5 := Fin.ext (by show b.val = 5; change b.val = 5 + y0.val at h0; omega)
    exact row_at x f 5 _ _ y0 c j
  · obtain rfl : b = 4 := Fin.ext (by show b.val = 4; change b.val = 4 + y0.val at h0; omega)
    exact row_at x f 4 _ _ y0 c j
  · obtain rfl : b = 3 := Fin.ext (by show b.val = 3; change b.val = 3 + y0.val at h0; omega)
    exact row_at x f 3 _ _ y0 c j
  · obtain rfl : b = 2 := Fin.ext (by show b.val = 2; change b.val = 2 + y0.val at h0; omega)
    exact row_at x f 2 _ _ y0 c j
  · obtain rfl : b = 1 := Fin.ext (by show b.val = 1; change b.val = 1 + y0.val at h0; omega)
    exact row_at x f 1 (by decide) (by decide) y0 c j
  · obtain rfl : b = 0 := Fin.ext (by show b.val = 0; change b.val = y0.val at h0; omega)
    exact row_at x f 0 _ _ y0 c j

end Cert.KernelIdeal.Block

end
end
-- ==== Proof.Result.lean ====
module

public import proofs.«01_k».proof.Proof.Blend

@[expose] public section

/-! # The result both programs compute

For every region, channel and bin, the mean of the four samples of that bin. -/

noncomputable section

namespace Cert.Roi

open Idealize.ShloMosaic

/-- The pooled regions: entry `(n, c, p, q)` is bin `(p, q)` of region `n` in channel `c`. -/
def roi (feat : FVec Ideal ⟨4, ![1, 96, 64, 64]⟩ .f32) (props : FVec Ideal ⟨2, ![4, 1000]⟩ .f32) :
    FVec Ideal ⟨4, ![1000, 96, 7, 7]⟩ .f32 := fun i =>
  bin (props (ix2 0 (i 0))) (props (ix2 1 (i 0))) (props (ix2 2 (i 0))) (props (ix2 3 (i 0)))
    (fun h w => feat (ix4 0 (i 1) h w)) (i 2).val (i 3).val

end Cert.Roi

end
end
-- ==== Proof.KernelRun.lean ====
module

public import proofs.«01_k».proof.Proof.KernelBlock
public import proofs.«01_k».proof.Proof.Result
public import Idealize.ShloMosaic.Lib.Claim

@[expose] public section

set_option maxRecDepth 16384

/-! # What the kernel's program leaves in its result -/

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Roi

variable (m : (ℓ : Loc nD τ sig) → Buf (Elt Ideal) ℓ)

/-- The blocks every window takes at a grid point. -/
theorem idx : ∀ t : Fin cfg0.N, win0_0.index t = ![t.val, 0] ∧ win0_1.index t = ![0, 0, 0] ∧ win0_2.index t = ![t.val, 0, 0] ∧ t.val < 125 :=
  (by decide +kernel : ∀ t : Fin grid0.N, _)

/-- The array the kernel fills: the bins of a plane laid out in one row. -/
def flat (feat : FVec Ideal S1x96x64x64 .f32) (props : FVec Ideal S4x1000 .f32) : FVec Ideal S1000x96x49 .f32 := fun i =>
  bin (props (ix2 0 (i 0))) (props (ix2 1 (i 0))) (props (ix2 2 (i 0))) (props (ix2 3 (i 0)))
    (fun h w => feat (ix4 0 (i 1) h w)) ((i 2).val / 7) ((i 2).val % 7)

/-- The kernel's first operand is the region table with its axes exchanged. -/
theorem props_entry (c : Dev nD) (n : Fin 1000) (k : Fin 4) :
    (show FVec Ideal S1000x4 .f32 from V m c main_v0) (ix2 n k)
      = (show FVec Ideal S4x1000 .f32 from m ((c : Thread nD τ).loc main_arg1)) (ix2 k n) := by
  have e : V m c main_v0 = transpose S1000x4 [1, 0] (m ((c : Thread nD τ).loc main_arg1)) transposes_S4x1000_S1000x4_1_0 := by
    unfold V V0
    simp only [hostOps0, List.flatten_cons, List.flatten_nil, List.append_nil]
    after_results
  show V m c main_v0 (ix2 n k) = _
  rw [e]
  pointwise

/-- Dropping the leading axis of the features, at an entry. -/
theorem lead_cast (X : FVec Ideal S1x96x64x64 .f32) (h0 : S1x96x64x64.ShapeCasts S96x64x64) (k : Fin 96) (h w : Fin 64) :
    shapeCast S96x64x64 X h0 (ix3 k h w) = X (ix4 0 k h w) := by
  pointwise

/-- The kernel's second operand is the features without their leading axis. -/
theorem feat_entry (c : Dev nD) (k : Fin 96) (h w : Fin 64) :
    (show FVec Ideal S96x64x64 .f32 from V m c main_v1) (ix3 k h w)
      = (show FVec Ideal S1x96x64x64 .f32 from m ((c : Thread nD τ).loc main_arg0)) (ix4 0 k h w) := by
  have e : V m c main_v1 = shapeCast S96x64x64 (m ((c : Thread nD τ).loc main_arg0)) shapeCasts_S1x96x64x64_S96x64x64 := by
    unfold V V0
    simp only [hostOps0, List.flatten_cons, List.flatten_nil, List.append_nil]
    after_results
    rfl
  show V m c main_v1 (ix3 k h w) = _
  rw [e]
  exact lead_cast _ _ k h w

/-- A block of regions is eight consecutive columns of the region table. -/
theorem block_props (c : Dev nD) (t : Fin cfg0.N) (b : Fin 8) (k : Fin 4) (h : t.val * 8 + b.val < 1000) :
    (show FVec Ideal S8x4 .f32 from iblk m c 0 t) (ix2 b k)
      = (show FVec Ideal S4x1000 .f32 from m ((c : Thread nD τ).loc main_arg1)) (ix2 k ⟨t.val * 8 + b.val, h⟩) := by
  refine Eq.trans ?_ (props_entry m c ⟨t.val * 8 + b.val, h⟩ k)
  blk_ext [iblk, idx t]

/-- The block of features is the whole feature plane stack. -/
theorem block_feat (c : Dev nD) (t : Fin cfg0.N) (k : Fin 96) (h w : Fin 64) :
    (show FVec Ideal S96x64x64 .f32 from iblk m c 1 t) (ix3 k h w)
      = (show FVec Ideal S1x96x64x64 .f32 from m ((c : Thread nD τ).loc main_arg0)) (ix4 0 k h w) := by
  refine Eq.trans ?_ (feat_entry m c k h w)
  blk_ext [iblk, idx t]

/-- The array after the run. -/
theorem final (c : Dev nD) : (dats m 0 c).arrAt 2 (cfgs 0).N
    = flat (m ((c : Thread nD τ).loc main_arg0)) (m ((c : Thread nD τ).loc main_arg1)) := by
  refine (dats m 0 c).arrAt_eq_of_covers 2 _ (by decide +kernel) fun t _ y => ?_
  have ht := (idx t).2.2.2
  blk_simp
  rw [after0_2]
  idx_vars y
  refine (out_at _ _ y0 y1 y2).trans ?_
  have h : t.val * 8 + y0.val < 1000 := by omega
  have e : ((View.whole main_v2).slice (win0_2.rect t)).emb (ix3 y0 y1 y2) = ix3 ⟨t.val * 8 + y0.val, h⟩ y1 y2 := by
    blk_ext [idx t]
  rw [e]
  have hf := funext fun a => funext fun b => block_feat m c t y1 a b
  exact congrFun (congrFun (congr (congr (congr (congr (congrArg bin (block_props m c t y0 0 h)) (block_props m c t y0 1 h))
    (block_props m c t y0 2 h)) (block_props m c t y0 3 h)) hf) (y2.val / 7)) (y2.val % 7)

/-- The result is the array with its rows of bins cut into planes. -/
theorem cut (feat : FVec Ideal S1x96x64x64 .f32) (props : FVec Ideal S4x1000 .f32) :
    shapeCast S1000x96x7x7 (flat feat props) shapeCasts_S1000x96x49_S1000x96x7x7 = roi feat props := by
  funext i
  idx_vars i
  pointwise
  unfold flat roi
  have e1 : (i2.val * 7 + i3.val) / 7 = i2.val := by omega
  have e2 : (i2.val * 7 + i3.val) % 7 = i3.val := by omega
  show bin _ _ _ _ _ ((i2.val * 7 + i3.val) / 7) ((i2.val * 7 + i3.val) % 7) = _
  rw [e1, e2]
  rfl

/-- The line after the kernel reshapes the array it filled. -/
theorem tail (c : Dev nD) : Pipeline.afterTail₀ cfgs (dats m) 0 (V0 m) [hostOps1] c main_v3
    = shapeCast S1000x96x7x7 ((dats m 0 c).arrAt 2 (cfgs 0).N) shapeCasts_S1000x96x49_S1000x96x7x7 := by
  unfold Pipeline.afterTail₀
  simp only [hostOps1, List.flatten_cons, List.flatten_nil, List.append_nil]
  after_results
  exact congrArg (fun a => shapeCast S1000x96x7x7 a shapeCasts_S1000x96x49_S1000x96x7x7)
    (Pipeline.withArrays_arr spec0 launch0.win.arr_inj c _ (fun w => (dats m 0 c).arrAt w (cfgs 0).N) 2)

/-- The kernel's program ends with the pooled regions as its result. -/
theorem run_result (ρ : Dev nD → PrngReg) :
    θ_run defs (onTc (τ := τ) (main (F := Ideal))) ⟨m, fun _ => 0, ρ⟩ (fun r => ∀ c : Dev nD,
      r.2.mem ((c.tc : Thread nD τ).loc main_v3) = roi (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Cert.KernelIdeal.Gen.run_main m ρ
  · rw [tail, final, cut]
  · exact W_main_arg0 m (dats m) c
  · exact W_main_arg1 m (dats m) c

end Cert.KernelIdeal.Block

end
end
-- ==== Proof.RefPoint.lean ====
module

public import proofs.«01_k».proof.Proof.Gen.ReferenceIdeal.Read
public import proofs.«01_k».proof.Proof.Result
public import Idealize.ShloMosaic.Lib.Pipeline.ValueKit

@[expose] public section

set_option maxRecDepth 16384

/-! # The reference at one sample point

The position of a sample, the two cells next to it on each axis, their weights, and whether the sample counts. -/

noncomputable section

open Idealize.ShloMosaic Idealize.ShloMosaic.TcCoe Idealize.SL.Sem

namespace Cert.ReferenceIdeal.Point

open Cert.ReferenceIdeal Cert.ReferenceIdeal.Gen Cert.ReferenceIdeal.Read Cert.Roi

/-- The divisor of a sample's place in its bin. -/
theorem two_val : Ideal.ofBits .f32 0x40000000#32 = ((2 : ℝ) : EReal) := by
  simp [Ideal.ofBits, Ideal.ieee, -EReal.coe_mul]; norm_num

/-- The offset of a sample counted in bins and in samples. -/
theorem off_eq (p : Fin 7) (s : Fin 2) :
    (((((BitVec.ofNat 32 p.val).toInt : ℝ) : EReal)
      + Ideal.div ((((BitVec.ofNat 32 s.val).toInt : ℝ) : EReal) + Ideal.ofBits .f32 0x3F000000#32) (Ideal.ofBits .f32 0x40000000#32)) : EReal)
      = off (p.val * 2 + s.val) := by
  unfold off
  rw [toInt_small _ (by omega), toInt_small _ (by omega), toInt_small _ (by omega), two_val, half_val, Ideal.div_coe (by norm_num : (2 : ℝ) ≠ 0)]
  rw [← EReal.coe_add, ← EReal.coe_add, ← EReal.coe_mul, ← EReal.coe_mul, ← EReal.coe_add]
  congr 1
  push_cast
  norm_num
  ring

/-- The vertical position of a sample. -/
theorem ypos_at (x1 : FVec Ideal S4x1000 .f32) (n : Fin 1000) (p q : Fin 7) (s t : Fin 2) :
    val_main_v60 (F := Ideal) x1 (ix5 n p q s t) = pos (x1 (ix2 1 n)) (x1 (ix2 3 n)) (off (p.val * 2 + s.val)) := by
  rw [← off_eq]
  pointwise [val_main_v60, val_main_v59, val_main_v46, val_main_v45, val_main_v44, val_main_v43, val_main_v42, val_main_v41,
    val_main_v40, val_main_v39, val_main_v38, val_main_v37, val_main_v36, val_main_v35, val_main_v33, val_main_v32, val_main_v31,
    val_main_v30, val_main_v29, val_main_v28, val_main_v25, val_main_v24, val_main_v23, val_main_v22, val_main_v21, val_main_v17,
    val_main_v16, val_main_v15, val_main_v14, val_main_v9, val_main_v8, val_main_v7, val_main_v6, val_main_v0, val_main_cst_0,
    val_main_cst_2, val_main_cst_4, val_main_cst_5, val_main_cst_7, val_main_cst_8]
  all_goals rfl

/-- The horizontal position of a sample. -/
theorem xpos_at (x1 : FVec Ideal S4x1000 .f32) (n : Fin 1000) (p q : Fin 7) (s t : Fin 2) :
    val_main_v62 (F := Ideal) x1 (ix5 n p q s t) = pos (x1 (ix2 0 n)) (x1 (ix2 2 n)) (off (q.val * 2 + t.val)) := by
  rw [← off_eq]
  pointwise [val_main_v62, val_main_v61, val_main_v58, val_main_v57, val_main_v56, val_main_v55, val_main_v54, val_main_v53,
    val_main_v52, val_main_v51, val_main_v50, val_main_v49, val_main_v48, val_main_v47, val_main_v34, val_main_v32, val_main_v31,
    val_main_v30, val_main_v29, val_main_v28, val_main_v27, val_main_v26, val_main_v20, val_main_v19, val_main_v18, val_main_v13,
    val_main_v12, val_main_v11, val_main_v10, val_main_v5, val_main_v4, val_main_v3, val_main_v2, val_main_v0, val_main_cst,
    val_main_cst_1, val_main_cst_3, val_main_cst_6, val_main_cst_7, val_main_cst_8]
  all_goals rfl

/-- The lower row of cells. -/
theorem ylo_at (x1 : FVec Ideal S4x1000 .f32) (i : S1000x7x7x2x2.Idx) :
    val_main_v86 (F := Ideal) x1 i = lo (val_main_v60 (F := Ideal) x1 i) := by
  unfold val_main_v86 val_main_v83 val_main_v79 val_main_v78 val_main_v75
  generalize val_main_v60 (F := Ideal) x1 = y
  pointwise [val_main_call0_v1, val_main_call0_v0, val_main_c_16, val_main_v82, val_main_c, val_main_v74, val_main_cst_13]
  rfl

/-- The upper row of cells. -/
theorem yhi_at (x1 : FVec Ideal S4x1000 .f32) (i : S1000x7x7x2x2.Idx) :
    val_main_v89 (F := Ideal) x1 i = hi (val_main_v60 (F := Ideal) x1 i) := by
  unfold val_main_v89 val_main_v88 val_main_v83 val_main_v79 val_main_v78 val_main_v75
  generalize val_main_v60 (F := Ideal) x1 = y
  pointwise [val_main_call1_v1, val_main_call1_v0, val_main_c_18, val_main_v87, val_main_c_17, val_main_v82, val_main_c, val_main_v74, val_main_cst_13]
  rfl

/-- The left column of cells. -/
theorem xlo_at (x1 : FVec Ideal S4x1000 .f32) (i : S1000x7x7x2x2.Idx) :
    val_main_v90 (F := Ideal) x1 i = lo (val_main_v62 (F := Ideal) x1 i) := by
  unfold val_main_v90 val_main_v85 val_main_v81 val_main_v80 val_main_v77
  generalize val_main_v62 (F := Ideal) x1 = y
  pointwise [val_main_call2_v1, val_main_call2_v0, val_main_c_19, val_main_v84, val_main_c_15, val_main_v76, val_main_cst_14]
  rfl

/-- The right column of cells. -/
theorem xhi_at (x1 : FVec Ideal S4x1000 .f32) (i : S1000x7x7x2x2.Idx) :
    val_main_v93 (F := Ideal) x1 i = hi (val_main_v62 (F := Ideal) x1 i) := by
  unfold val_main_v93 val_main_v92 val_main_v85 val_main_v81 val_main_v80 val_main_v77
  generalize val_main_v62 (F := Ideal) x1 = y
  pointwise [val_main_call3_v1, val_main_call3_v0, val_main_c_21, val_main_v91, val_main_c_20, val_main_v84, val_main_c_15, val_main_v76, val_main_cst_14]
  rfl

/-- The weight of the upper row. -/
theorem yfr_at (x1 : FVec Ideal S4x1000 .f32) (i : S1000x7x7x2x2.Idx) :
    val_main_v99 (F := Ideal) x1 i = fr (val_main_v60 (F := Ideal) x1 i) := by
  unfold val_main_v99 val_main_v98 val_main_v95 val_main_v94 val_main_v86 val_main_v83 val_main_v79 val_main_v78 val_main_v75
  generalize val_main_v60 (F := Ideal) x1 = y
  pointwise [val_main_call0_v1, val_main_call0_v0, val_main_c_16, val_main_v82, val_main_c, val_main_v74, val_main_cst_13]
  rfl

/-- The weight of the right column. -/
theorem xfr_at (x1 : FVec Ideal S4x1000 .f32) (i : S1000x7x7x2x2.Idx) :
    val_main_v103 (F := Ideal) x1 i = fr (val_main_v62 (F := Ideal) x1 i) := by
  unfold val_main_v103 val_main_v102 val_main_v97 val_main_v96 val_main_v90 val_main_v85 val_main_v81 val_main_v80 val_main_v77
  generalize val_main_v62 (F := Ideal) x1 = y
  pointwise [val_main_call2_v1, val_main_call2_v0, val_main_c_19, val_main_v84, val_main_c_15, val_main_v76, val_main_cst_14]
  rfl

/-- The weight of the lower row. -/
theorem yfr'_at (x1 : FVec Ideal S4x1000 .f32) (i : S1000x7x7x2x2.Idx) :
    val_main_v101 (F := Ideal) x1 i = 1 - fr (val_main_v60 (F := Ideal) x1 i) := by
  rw [← yfr_at]
  pointwise [val_main_v101, val_main_v100, val_main_cst_22]

/-- The weight of the left column. -/
theorem xfr'_at (x1 : FVec Ideal S4x1000 .f32) (i : S1000x7x7x2x2.Idx) :
    val_main_v105 (F := Ideal) x1 i = 1 - fr (val_main_v62 (F := Ideal) x1 i) := by
  rw [← xfr_at]
  pointwise [val_main_v105, val_main_v104, val_main_cst_23]

/-- Whether the sample counts: its position lies in the image on both axes. -/
theorem ins_at (x1 : FVec Ideal S4x1000 .f32) (i : S1000x7x7x2x2.Idx) :
    val_main_v73 (F := Ideal) x1 i = IntOp.andi (ins (val_main_v60 (F := Ideal) x1 i)) (ins (val_main_v62 (F := Ideal) x1 i)) := by
  have h : ∀ a b c d : BitVec 1, IntOp.andi (IntOp.andi (IntOp.andi a b) c) d = IntOp.andi (IntOp.andi a b) (IntOp.andi c d) := by decide
  unfold ins
  rw [← h]
  unfold val_main_v73 val_main_v72 val_main_v70 val_main_v69 val_main_v67 val_main_v66 val_main_v64
  generalize val_main_v60 (F := Ideal) x1 = y
  generalize val_main_v62 (F := Ideal) x1 = x
  pointwise [val_main_v63, val_main_cst_9, val_main_v65, val_main_cst_10, val_main_v68, val_main_cst_11, val_main_v71, val_main_cst_12]

/-- Two bits joined, as a number. -/
theorem num_and (u v : BitVec 1) : (((IntOp.andi u v).toNat : ℝ) : EReal) = num u * num v := by
  rcases bit_cases u with rfl | rfl <;> rcases bit_cases v with rfl | rfl <;> simp [num, IntOp.andi]

end Cert.ReferenceIdeal.Point

end
end
-- ==== Proof.RefTake.lean ====
module

public import proofs.«01_k».proof.Proof.Gen.ReferenceIdeal.Read
public import proofs.«01_k».proof.Proof.Result
public import Idealize.ShloMosaic.Lib.Pipeline.ValueKit
public import Idealize.ShloMosaic.Lib.ReduceAll

@[expose] public section

set_option maxRecDepth 16384

/-! # The reference's look-up of cells

The reference names a cell by one word, row times 64 plus column, and looks it up in the flattened features. The words
it forms are always in range, so the look-up reads the cell and its out-of-range value is never used. -/

noncomputable section

open Idealize.ShloMosaic Idealize.ShloMosaic.TcCoe Idealize.SL.Sem

namespace Cert.ReferenceIdeal.Take

open Cert.ReferenceIdeal Cert.ReferenceIdeal.Gen Cert.ReferenceIdeal.Read Cert.Roi

/-- The looked-up entry: the column the word names. -/
theorem gather_at (X : FVec Ideal S96x4096 .f32) (W : IVec S196000x1 32) (c : Fin 96) (j : Fin 196000) (n : Fin 4096)
    (h : W (ix2 j 0) = BitVec.ofNat 32 n.val) :
    Host.gather gather_S96x4096_S196000x1_S96x196000_0_1_n_n_1_1_961 X W (ix2 c j) = X (ix2 c n) := by
  unfold Host.gather
  congr 1
  have hs : gather_S96x4096_S196000x1_S96x196000_0_1_n_n_1_1_961.start (ix2 c j) W 1 = n.val := by
    unfold GatherDims.start
    rw [dif_pos (show (1 : Fin 2) ∈ gather_S96x4096_S196000x1_S96x196000_0_1_n_n_1_1_961.startIndexMap from List.mem_singleton.mpr rfl)]
    have hi : gather_S96x4096_S196000x1_S96x196000_0_1_n_n_1_1_961.siIdx (ix2 c j)
        ⟨List.idxOf (1 : Fin 2) gather_S96x4096_S196000x1_S96x196000_0_1_n_n_1_1_961.startIndexMap,
          List.idxOf_lt_length_iff.2 (List.mem_singleton.mpr rfl)⟩ = ix2 j 0 := by
      funext b
      refine Fin.ext ?_
      match b with
      | ⟨0, _⟩ => rfl
      | ⟨1, _⟩ => rfl
    rw [hi, h, toInt_small _ (by omega)]
    show min n.val 4095 = n.val
    omega
  funext a
  refine Fin.ext ?_
  show gather_S96x4096_S196000x1_S96x196000_0_1_n_n_1_1_961.start (ix2 c j) W a
    + gather_S96x4096_S196000x1_S96x196000_0_1_n_n_1_1_961.batchCoord (ix2 c j) a
    + gather_S96x4096_S196000x1_S96x196000_0_1_n_n_1_1_961.offCoord (ix2 c j) a = _
  match a with
  | ⟨0, _⟩ =>
    have h0 : gather_S96x4096_S196000x1_S96x196000_0_1_n_n_1_1_961.start (ix2 c j) W 0 = 0 := rfl
    show gather_S96x4096_S196000x1_S96x196000_0_1_n_n_1_1_961.start (ix2 c j) W 0 + 0 + c.val = c.val
    rw [h0]
    omega
  | ⟨1, _⟩ =>
    show gather_S96x4096_S196000x1_S96x196000_0_1_n_n_1_1_961.start (ix2 c j) W 1 + 0 + 0 = n.val
    rw [hs]
    rfl

/-- The words the look-up reads at. -/
def words (w : IVec S196000 32) : IVec S196000x1 32 :=
  broadcastInDim S196000x1 ![0] bcast_S196000_S196000x1_0
    (select (cmpi .slt w (val_main_call6_v0 (F := Ideal))) (addi w (val_main_call6_v2 (F := Ideal))) w)

/-- The look-up with its out-of-range value. -/
def look (X : FVec Ideal S96x4096 .f32) (w : IVec S196000 32) : FVec Ideal S96x196000 .f32 :=
  select (broadcastInDim S96x196000 ![1] bcast_S196000_S96x196000_1
      (Host.reduce IntOp.andi (andi (cmpi .sge (words w) (val_main_call6_v6 (F := Ideal))) (cmpi .sle (words w) (val_main_call6_v9 (F := Ideal))))
        (val_main_call6_c_3 (F := Ideal)) reducesTo_S196000x1_S196000_d1 h_S_))
    (Host.gather gather_S96x4096_S196000x1_S96x196000_0_1_n_n_1_1_961 X (words w)) (val_main_call6_v15 (F := Ideal))

/-- A word in range is read as it stands. -/
theorem words_at (w : IVec S196000 32) (j : Fin 196000) (k : Fin 1) (n : Fin 4096) (h : w (ix1 j) = BitVec.ofNat 32 n.val) :
    words w (ix2 j k) = BitVec.ofNat 32 n.val := by
  have e : words w (ix2 j k) = Scalar.select (IntOp.cmpi .slt (w (ix1 j)) 0#32) (IntOp.addi (w (ix1 j)) 4096#32) (w (ix1 j)) := by
    pointwise [words, val_main_call6_v0, val_main_call6_c, val_main_call6_v2, val_main_call6_c_0]
  have hlt : IntOp.cmpi .slt (w (ix1 j)) 0#32 = 0#1 := by
    rw [h]
    unfold IntOp.cmpi
    have hn : ¬ ((n.val : ℤ) < 0) := by omega
    simp only [BitVec.slt, toInt_small n.val (by omega), BitVec.toInt_zero, decide_eq_false hn]
    rfl
  rw [e, hlt, h]
  rfl

/-- When every word is in range the look-up reads the column its word names. -/
theorem look_at (X : FVec Ideal S96x4096 .f32) (w : IVec S196000 32) (hw : ∀ i, ∃ n : Fin 4096, w i = BitVec.ofNat 32 n.val)
    (c : Fin 96) (j : Fin 196000) (n : Fin 4096) (h : w (ix1 j) = BitVec.ofNat 32 n.val) :
    look X w (ix2 c j) = X (ix2 c n) := by
  have hm : ∀ i, andi (cmpi .sge (words w) (val_main_call6_v6 (F := Ideal))) (cmpi .sle (words w) (val_main_call6_v9 (F := Ideal))) i = 1#1 := by
    intro i
    idx_vars i
    obtain ⟨k, hk⟩ := hw (ix1 i0)
    have e : andi (cmpi .sge (words w) (val_main_call6_v6 (F := Ideal))) (cmpi .sle (words w) (val_main_call6_v9 (F := Ideal))) (ix2 i0 i1)
        = IntOp.andi (IntOp.cmpi .sge (words w (ix2 i0 i1)) 0#32) (IntOp.cmpi .sle (words w (ix2 i0 i1)) 4095#32) := by
      pointwise [val_main_call6_v6, val_main_call6_c_2, val_main_call6_v9, val_main_call6_v8, val_main_call6_c_1]
    rw [e, words_at w i0 i1 k hk]
    have h1 : IntOp.cmpi .sge (BitVec.ofNat 32 k.val) 0#32 = 1#1 := by
      unfold IntOp.cmpi
      simp only [BitVec.sle, toInt_small k.val (by omega)]
      simp
    have h2 : IntOp.cmpi .sle (BitVec.ofNat 32 k.val) 4095#32 = 1#1 := by
      unfold IntOp.cmpi
      simp only [BitVec.sle, toInt_small k.val (by omega)]
      have hk' : (k.val : ℤ) ≤ (4095#32 : BitVec 32).toInt := by
        show (k.val : ℤ) ≤ 4095
        omega
      rw [decide_eq_true hk']
      rfl
    rw [h1, h2]
    rfl
  have hr : ∀ i, Host.reduce IntOp.andi (andi (cmpi .sge (words w) (val_main_call6_v6 (F := Ideal))) (cmpi .sle (words w) (val_main_call6_v9 (F := Ideal))))
        (val_main_call6_c_3 (F := Ideal)) reducesTo_S196000x1_S196000_d1 h_S_ i = 1#1 :=
    fun i => Host.reduce_andi_one _ _ _ _ i rfl hm
  unfold look
  show Scalar.select (Host.reduce IntOp.andi _ _ reducesTo_S196000x1_S196000_d1 h_S_ _) _ _ = _
  rw [hr]
  exact gather_at X (words w) c j n (words_at w j 0 n h)

end Cert.ReferenceIdeal.Take

end
end
-- ==== Proof.RefValue.lean ====
module

public import proofs.«01_k».proof.Proof.RefPoint
public import proofs.«01_k».proof.Proof.RefTake

@[expose] public section

set_option maxRecDepth 16384

/-! # What the reference computes

Four look-ups per sample, their weighted sum, the sum over the samples of a bin, and the division by their number. -/

noncomputable section

open Idealize.ShloMosaic Idealize.ShloMosaic.TcCoe Idealize.SL.Sem

namespace Cert.ReferenceIdeal.Value

open Cert.ReferenceIdeal Cert.ReferenceIdeal.Gen Cert.ReferenceIdeal.Read Cert.ReferenceIdeal.Point Cert.ReferenceIdeal.Take Cert.Roi

/-- The word of a cell in the flattened features. -/
theorem cell_word (a b : Fin 64) :
    IntOp.addi (IntOp.muli (BitVec.ofNat 32 a.val) 64#32) (BitVec.ofNat 32 b.val) = BitVec.ofNat 32 (a.val * 64 + b.val) := by
  show BitVec.ofNat 32 a.val * BitVec.ofNat 32 64 + BitVec.ofNat 32 b.val = _
  rw [BitVec.ofNat_add, BitVec.ofNat_mul]

/-- A cell of the flattened features. -/
theorem flat_at (x0 : FVec Ideal S1x96x64x64 .f32) (c : Fin 96) (a b : Fin 64) (h : a.val * 64 + b.val < 4096) :
    val_main_v106 (F := Ideal) x0 (ix2 c ⟨a.val * 64 + b.val, h⟩) = x0 (ix4 0 c a b) := by
  pointwise [val_main_v106, val_main_v1]
  all_goals (congr 1; idx_ext)

/-- Where sample `(s, t)` of bin `(p, q)` of region `n` lies in the flattened samples. -/
def place (n : Fin 1000) (p q : Fin 7) (s t : Fin 2) : Fin 196000 :=
  ⟨(((n.val * 7 + p.val) * 7 + q.val) * 2 + s.val) * 2 + t.val, by omega⟩

/-- Flattening the samples. -/
theorem place_in (w : IVec S1000x7x7x2x2 32) (h : S1000x7x7x2x2.ShapeCasts S196000) (n : Fin 1000) (p q : Fin 7) (s t : Fin 2) :
    shapeCast S196000 w h (ix1 (place n p q s t)) = w (ix5 n p q s t) := by
  unfold place
  pointwise
  all_goals (congr 1; idx_ext)

/-- Unflattening the samples. -/
theorem place_out (v : FVec Ideal S96x196000 .f32) (h : S96x196000.ShapeCasts S96x1000x7x7x2x2) (c : Fin 96) (n : Fin 1000)
    (p q : Fin 7) (s t : Fin 2) :
    shapeCast S96x1000x7x7x2x2 v h (ix6 c n p q s t) = v (ix2 c (place n p q s t)) := by
  unfold place
  pointwise
  all_goals (congr 1; idx_ext)

/-- One look-up of a sample: the feature at the cell that a row word and a column word name. -/
theorem read_at (x0 : FVec Ideal S1x96x64x64 .f32) (r k : IVec S1000x7x7x2x2 32)
    (hr : ∀ i, ∃ a : Fin 64, r i = BitVec.ofNat 32 a.val) (hk : ∀ i, ∃ b : Fin 64, k i = BitVec.ofNat 32 b.val)
    (c : Fin 96) (n : Fin 1000) (p q : Fin 7) (s t : Fin 2) :
    shapeCast S96x1000x7x7x2x2 (look (val_main_v106 (F := Ideal) x0)
        (shapeCast S196000 (addi (muli r (val_main_v109 (F := Ideal))) k) shapeCasts_S1000x7x7x2x2_S196000))
        shapeCasts_S96x196000_S96x1000x7x7x2x2 (ix6 c n p q s t)
      = x0 (ix4 0 c (cell (r (ix5 n p q s t))) (cell (k (ix5 n p q s t)))) := by
  have hw : ∀ i (a b : Fin 64), r i = BitVec.ofNat 32 a.val → k i = BitVec.ofNat 32 b.val →
      addi (muli r (val_main_v109 (F := Ideal))) k i = BitVec.ofNat 32 (a.val * 64 + b.val) := by
    intro i a b ha hb
    rw [← cell_word, ← ha, ← hb]
    pointwise [val_main_v109, val_main_c_24]
  obtain ⟨a, ha⟩ := hr (ix5 n p q s t)
  obtain ⟨b, hb⟩ := hk (ix5 n p q s t)
  rw [place_out, look_at _ _ _ c (place n p q s t) ⟨a.val * 64 + b.val, by omega⟩, flat_at, ha, hb, cell_ofNat, cell_ofNat]
  · rw [place_in]
    exact hw _ a b ha hb
  · intro i
    obtain ⟨j, hj⟩ : ∃ j, shapeCast S196000 (addi (muli r (val_main_v109 (F := Ideal))) k) shapeCasts_S1000x7x7x2x2_S196000 i
        = addi (muli r (val_main_v109 (F := Ideal))) k j := ⟨_, rfl⟩
    obtain ⟨a', ha'⟩ := hr j
    obtain ⟨b', hb'⟩ := hk j
    exact ⟨⟨a'.val * 64 + b'.val, by omega⟩, hj.trans (hw j a' b' ha' hb')⟩

/-- The rows and columns the reference looks up are cells. -/
theorem lo_cell (y : FVec Ideal S1000x7x7x2x2 .f32) (i : S1000x7x7x2x2.Idx) : ∃ a : Fin 64, lo (y i) = BitVec.ofNat 32 a.val := by
  obtain ⟨l, h, a, b, e, _⟩ := spec (y i)
  exact ⟨l, e⟩

/-- The same for the upper cells. -/
theorem hi_cell (y : FVec Ideal S1000x7x7x2x2 .f32) (i : S1000x7x7x2x2.Idx) : ∃ a : Fin 64, hi (y i) = BitVec.ofNat 32 a.val := by
  obtain ⟨l, h, a, b, _, e, _⟩ := spec (y i)
  exact ⟨h, e⟩

/-- The feature in the lower row and left column. -/
theorem f00_at (x0 : FVec Ideal S1x96x64x64 .f32) (x1 : FVec Ideal S4x1000 .f32) (c : Fin 96) (n : Fin 1000) (p q : Fin 7) (s t : Fin 2) :
    val_main_v114 (F := Ideal) x0 x1 (ix6 c n p q s t) = x0 (ix4 0 c (cell (lo (val_main_v60 (F := Ideal) x1 (ix5 n p q s t))))
      (cell (lo (val_main_v62 (F := Ideal) x1 (ix5 n p q s t))))) := by
  rw [← ylo_at, ← xlo_at]
  exact read_at x0 (val_main_v86 (F := Ideal) x1) (val_main_v90 (F := Ideal) x1) (fun i => by rw [ylo_at]; exact lo_cell _ i)
    (fun i => by rw [xlo_at]; exact lo_cell _ i) c n p q s t

/-- The feature in the lower row and right column. -/
theorem f01_at (x0 : FVec Ideal S1x96x64x64 .f32) (x1 : FVec Ideal S4x1000 .f32) (c : Fin 96) (n : Fin 1000) (p q : Fin 7) (s t : Fin 2) :
    val_main_v124 (F := Ideal) x0 x1 (ix6 c n p q s t) = x0 (ix4 0 c (cell (lo (val_main_v60 (F := Ideal) x1 (ix5 n p q s t))))
      (cell (hi (val_main_v62 (F := Ideal) x1 (ix5 n p q s t))))) := by
  rw [← ylo_at, ← xhi_at]
  exact read_at x0 (val_main_v86 (F := Ideal) x1) (val_main_v93 (F := Ideal) x1) (fun i => by rw [ylo_at]; exact lo_cell _ i)
    (fun i => by rw [xhi_at]; exact hi_cell _ i) c n p q s t

/-- The feature in the upper row and left column. -/
theorem f10_at (x0 : FVec Ideal S1x96x64x64 .f32) (x1 : FVec Ideal S4x1000 .f32) (c : Fin 96) (n : Fin 1000) (p q : Fin 7) (s t : Fin 2) :
    val_main_v135 (F := Ideal) x0 x1 (ix6 c n p q s t) = x0 (ix4 0 c (cell (hi (val_main_v60 (F := Ideal) x1 (ix5 n p q s t))))
      (cell (lo (val_main_v62 (F := Ideal) x1 (ix5 n p q s t))))) := by
  rw [← yhi_at, ← xlo_at]
  exact read_at x0 (val_main_v89 (F := Ideal) x1) (val_main_v90 (F := Ideal) x1) (fun i => by rw [yhi_at]; exact hi_cell _ i)
    (fun i => by rw [xlo_at]; exact lo_cell _ i) c n p q s t

/-- The feature in the upper row and right column. -/
theorem f11_at (x0 : FVec Ideal S1x96x64x64 .f32) (x1 : FVec Ideal S4x1000 .f32) (c : Fin 96) (n : Fin 1000) (p q : Fin 7) (s t : Fin 2) :
    val_main_v146 (F := Ideal) x0 x1 (ix6 c n p q s t) = x0 (ix4 0 c (cell (hi (val_main_v60 (F := Ideal) x1 (ix5 n p q s t))))
      (cell (hi (val_main_v62 (F := Ideal) x1 (ix5 n p q s t))))) := by
  rw [← yhi_at, ← xhi_at]
  exact read_at x0 (val_main_v89 (F := Ideal) x1) (val_main_v93 (F := Ideal) x1) (fun i => by rw [yhi_at]; exact hi_cell _ i)
    (fun i => by rw [xhi_at]; exact hi_cell _ i) c n p q s t

/-- One sample. -/
theorem samp_at (x0 : FVec Ideal S1x96x64x64 .f32) (x1 : FVec Ideal S4x1000 .f32) (c : Fin 96) (n : Fin 1000) (p q : Fin 7) (s t : Fin 2) :
    val_main_v153 (F := Ideal) x0 x1 (ix6 c n p q s t)
      = samp (fun h w => x0 (ix4 0 c h w)) (val_main_v60 (F := Ideal) x1 (ix5 n p q s t)) (val_main_v62 (F := Ideal) x1 (ix5 n p q s t)) := by
  unfold samp
  beta_reduce
  rw [← num_and, ← ins_at, ← f00_at x0 x1 c n p q s t, ← f01_at x0 x1 c n p q s t, ← f10_at x0 x1 c n p q s t, ← f11_at x0 x1 c n p q s t, ← yfr'_at, ← xfr'_at, ← yfr_at, ← xfr_at]
  pointwise [val_main_v153, val_main_v152, val_main_v151, val_main_v150, val_main_v149, val_main_v148, val_main_v147, val_main_v140,
    val_main_v139, val_main_v138, val_main_v137, val_main_v136, val_main_v129, val_main_v128, val_main_v127, val_main_v126,
    val_main_v125, val_main_v118, val_main_v117, val_main_v116, val_main_v115, val_main_v108, val_main_v107]
  all_goals rfl

/-- The sum over the samples of a bin. -/
theorem sum_at (v : FVec Ideal S96x1000x7x7x2x2 .f32) (z : EReal) (c : Fin 96) (n : Fin 1000) (p q : Fin 7) :
    Ideal.hostReduceAdd reducesTo_S96x1000x7x7x2x2_S96x1000x7x7_d5_4 v z (ix4 c n p q) = z + ∑ s : Fin 2, ∑ t : Fin 2, v (ix6 c n p q s t) := by
  have hf : ∀ i : S96x1000x7x7x2x2.Idx, (reducesTo_S96x1000x7x7x2x2_S96x1000x7x7_d5_4.drop i = ix4 c n p q)
      ↔ ∃ k : Fin 2 × Fin 2, ix6 c n p q k.1 k.2 = i := by
    intro i
    constructor
    · intro e
      refine ⟨(i 4, i 5), ?_⟩
      funext a
      match a with
      | ⟨0, _⟩ => exact (congrFun e 0).symm
      | ⟨1, _⟩ => exact (congrFun e 1).symm
      | ⟨2, _⟩ => exact (congrFun e 2).symm
      | ⟨3, _⟩ => exact (congrFun e 3).symm
      | ⟨4, _⟩ => rfl
      | ⟨5, _⟩ => rfl
    · rintro ⟨k, rfl⟩
      funext b
      match b with
      | ⟨0, _⟩ => rfl
      | ⟨1, _⟩ => rfl
      | ⟨2, _⟩ => rfl
      | ⟨3, _⟩ => rfl
  unfold Ideal.hostReduceAdd
  rw [Finset.sum_filter_eq_sum_of_fiber _ (fun k : Fin 2 × Fin 2 => ix6 c n p q k.1 k.2)
    (fun a b e => Prod.ext (congrFun e 4) (congrFun e 5)) hf, Fintype.sum_prod_type]

/-- The reference's result is the pooled regions. -/
theorem result (x0 : FVec Ideal S1x96x64x64 .f32) (x1 : FVec Ideal S4x1000 .f32) :
    val_main_v157 (F := Ideal) x0 x1 = roi x0 x1 := by
  funext i
  idx_vars i
  have e : val_main_v157 (F := Ideal) x0 x1 (ix4 i0 i1 i2 i3)
      = Ideal.div (Ideal.hostReduceAdd reducesTo_S96x1000x7x7x2x2_S96x1000x7x7_d5_4 (val_main_v153 (F := Ideal) x0 x1)
          (Ideal.ofBits .f32 0x00000000#32) (ix4 i1 i0 i2 i3)) (Ideal.ofBits .f32 0x40800000#32) := by
    have h : val_main_v157 (F := Ideal) x0 x1 (ix4 i0 i1 i2 i3) = val_main_v156 (F := Ideal) x0 x1 (ix4 i1 i0 i2 i3) := by
      pointwise [val_main_v157]
    rw [h]
    rfl
  rw [e, sum_at, show Ideal.ofBits .f32 0x00000000#32 = 0 by simp [Ideal.ofBits, Ideal.ieee], zero_add]
  simp only [samp_at, ypos_at, xpos_at]
  rfl

/-- The reference's program ends with the pooled regions as its result. -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v157) = roi (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((val_main_v157_eq (F := Ideal) (StableHlo.launchContents m c)).trans (result _ _)), (h c).2⟩)
    (Cert.ReferenceIdeal.Value.run (F := Ideal) m ρ)

end Cert.ReferenceIdeal.Value

end
end
-- ==== Proof.lean ====
/- The five claims: each program's frame, what the idealization keeps, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.SL.Sem

/-- The reference ends with its arguments as they were and every counter at zero. -/
theorem reference_frame : Cert.quiescent_ReferenceIdeal (hReferenceIdeal := Cert.ReferenceIdeal.Gen.facts) := by
  intro m g _
  exact θ_run_mono (Cert.ReferenceIdeal.Value.run_result m g) fun r h => ⟨fun c => (h c).2, sem_eq_zero_of_no_sems (by decide) r.2⟩

/-- The kernel and the reference end with equal results: both are the pooled regions. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => Cert.Roi.roi (m ((c.tc : Thread _ _).loc Cert.KernelIdeal.main_arg0)) (m ((c.tc : Thread _ _).loc Cert.KernelIdeal.main_arg1)),
    Cert.KernelIdeal.Block.run_result m g, θ_run_mono (Cert.ReferenceIdeal.Value.run_result m' g') fun r h c => ⟨(h c).1.trans ?_, (h c).2⟩⟩
  exact congrArg₂ Cert.Roi.roi (hagree c).1 (hagree c).2

/-- The whole certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, equal_results⟩

end Cert.Proof

end
